-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def Pre_KernelAtIdeal (m : (ℓ : Loc Cert.KernelAtIdeal.nD Cert.KernelAtIdeal.τ Cert.KernelAtIdeal.sig) → Buf (Elt Ideal) ℓ) : Prop :=
  True

def Pre_MathematicsAtIdeal (m : (ℓ : Loc Cert.MathematicsAtIdeal.nD Cert.MathematicsAtIdeal.τ Cert.MathematicsAtIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelAtIdeal [hKernelAtIdeal : Cert.KernelAtIdeal.Facts] : Prop :=
  ∀ (m : (ℓ : Loc Cert.KernelAtIdeal.nD Cert.KernelAtIdeal.τ Cert.KernelAtIdeal.sig) → Buf (Elt Ideal) ℓ) (g : Dev Cert.KernelAtIdeal.nD → PrngReg), Pre_KernelAtIdeal m →
    θ_run (Cert.KernelAtIdeal.defs (F := Ideal)) (onTc (τ := Cert.KernelAtIdeal.τ) (Cert.KernelAtIdeal.main (F := Ideal))) ⟨m, fun _ => 0, g⟩ (fun r => (∀ c : Dev Cert.KernelAtIdeal.nD,
      r.2.mem ((c.tc : Thread Cert.KernelAtIdeal.nD Cert.KernelAtIdeal.τ).loc Cert.KernelAtIdeal.main_arg0) = m ((c.tc : Thread Cert.KernelAtIdeal.nD Cert.KernelAtIdeal.τ).loc Cert.KernelAtIdeal.main_arg0))
      ∧ r.2.sem = fun _ => 0)

def quiescent_MathematicsAtIdeal [hMathematicsAtIdeal : Cert.MathematicsAtIdeal.Facts] : Prop :=
  ∀ (m : (ℓ : Loc Cert.MathematicsAtIdeal.nD Cert.MathematicsAtIdeal.τ Cert.MathematicsAtIdeal.sig) → Buf (Elt Ideal) ℓ) (g : Dev Cert.MathematicsAtIdeal.nD → PrngReg), Pre_MathematicsAtIdeal m →
    θ_run (Cert.MathematicsAtIdeal.defs (F := Ideal)) (onTc (τ := Cert.MathematicsAtIdeal.τ) (Cert.MathematicsAtIdeal.main (F := Ideal))) ⟨m, fun _ => 0, g⟩ (fun r => (∀ c : Dev Cert.MathematicsAtIdeal.nD,
      r.2.mem ((c.tc : Thread Cert.MathematicsAtIdeal.nD Cert.MathematicsAtIdeal.τ).loc Cert.MathematicsAtIdeal.main_arg0) = m ((c.tc : Thread Cert.MathematicsAtIdeal.nD Cert.MathematicsAtIdeal.τ).loc Cert.MathematicsAtIdeal.main_arg0))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def disproves_algebraic_KernelAtIdeal_MathematicsAtIdeal [hKernelAtIdeal : Cert.KernelAtIdeal.Facts] [hMathematicsAtIdeal : Cert.MathematicsAtIdeal.Facts] : Prop :=
  ∀ (m : (ℓ : Loc Cert.KernelAtIdeal.nD Cert.KernelAtIdeal.τ Cert.KernelAtIdeal.sig) → Buf (Elt Ideal) ℓ) (g : Dev Cert.KernelAtIdeal.nD → PrngReg)
    (m' : (ℓ : Loc Cert.MathematicsAtIdeal.nD Cert.MathematicsAtIdeal.τ Cert.MathematicsAtIdeal.sig) → Buf (Elt Ideal) ℓ) (g' : Dev Cert.MathematicsAtIdeal.nD → PrngReg),
    (∀ c : Dev Cert.KernelAtIdeal.nD,
      m ((c.tc : Thread Cert.KernelAtIdeal.nD Cert.KernelAtIdeal.τ).loc Cert.KernelAtIdeal.main_arg0) = Cert.Cx_KernelAtIdeal.arg0 (F := Ideal)) →
    (∀ c : Dev Cert.KernelAtIdeal.nD,
      m' ((c.tc : Thread Cert.MathematicsAtIdeal.nD Cert.MathematicsAtIdeal.τ).loc Cert.MathematicsAtIdeal.main_arg0) = m ((c.tc : Thread Cert.KernelAtIdeal.nD Cert.KernelAtIdeal.τ).loc Cert.KernelAtIdeal.main_arg0)) →
    Pre_KernelAtIdeal m
    ∧ ∃ (v0 : (c : Dev Cert.KernelAtIdeal.nD) → Buf (Elt Ideal) ((c.tc : Thread Cert.KernelAtIdeal.nD Cert.KernelAtIdeal.τ).loc Cert.KernelAtIdeal.main_v49)),
      θ_run (Cert.KernelAtIdeal.defs (F := Ideal)) (onTc (τ := Cert.KernelAtIdeal.τ) (Cert.KernelAtIdeal.main (F := Ideal))) ⟨m, fun _ => 0, g⟩ (fun r => ¬ (∀ c : Dev Cert.KernelAtIdeal.nD,
          r.2.mem ((c.tc : Thread Cert.KernelAtIdeal.nD Cert.KernelAtIdeal.τ).loc Cert.KernelAtIdeal.main_v49) = v0 c))
      ∧ θ_run (Cert.MathematicsAtIdeal.defs (F := Ideal)) (onTc (τ := Cert.MathematicsAtIdeal.τ) (Cert.MathematicsAtIdeal.main (F := Ideal))) ⟨m', fun _ => 0, g'⟩ (fun r => ∀ c : Dev Cert.MathematicsAtIdeal.nD,
          r.2.mem ((c.tc : Thread Cert.MathematicsAtIdeal.nD Cert.MathematicsAtIdeal.τ).loc Cert.MathematicsAtIdeal.main_v44) = v0 c)

def Claim : Prop :=
  ∃ (hKernel : Cert.Kernel.Facts) (hKernelIdeal : Cert.KernelIdeal.Facts) (hReferenceIdeal : Cert.ReferenceIdeal.Facts) (hKernelAtIdeal : Cert.KernelAtIdeal.Facts) (hMathematicsAtIdeal : Cert.MathematicsAtIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_KernelAtIdeal (hKernelAtIdeal := hKernelAtIdeal)
    ∧ quiescent_MathematicsAtIdeal (hMathematicsAtIdeal := hMathematicsAtIdeal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ disproves_algebraic_KernelAtIdeal_MathematicsAtIdeal (hKernelAtIdeal := hKernelAtIdeal) (hMathematicsAtIdeal := hMathematicsAtIdeal)
-- ==== Cx_KernelAtIdeal.lean ====
noncomputable def arg0_words : Fin 1 → BitVec 32 :=
  ![0x00000000#32]
noncomputable def arg0 {F : FTy → Type} [FloatOps F] : FVec F (⟨1, ![1]⟩ : Shape) .f32 := fun i => FloatOps.ofBits .f32 (arg0_words (i 0))
-- ==== Pre_finite_inputs.lean ====
abbrev S2x4096x8x256 : Shape := ⟨4, ![2, 4096, 8, 256]⟩
abbrev S1 : Shape := ⟨1, ![1]⟩
abbrev S8x256x256 : Shape := ⟨3, ![8, 256, 256]⟩
abbrev S4096x16 : Shape := ⟨2, ![4096, 16]⟩
abbrev S_ : Shape := ⟨0, ![]⟩

class Facts : Prop where
  bcast_S_S2x4096x8x256 : S_.BroadcastsInDim S2x4096x8x256 (![] : Fin 0 → Fin S2x4096x8x256.rank)
  bcast_S_S8x256x256 : S_.BroadcastsInDim S8x256x256 (![] : Fin 0 → Fin S8x256x256.rank)
  bcast_S_S4096x16 : S_.BroadcastsInDim S4096x16 (![] : Fin 0 → Fin S4096x16.rank)

variable [Facts]

def fn {F : FTy → Type} [FloatOps F] (main_arg0 : FVec F S2x4096x8x256 .f32) (main_arg1 : FVec F S2x4096x8x256 .f32) (main_arg2 : FVec F S2x4096x8x256 .f32) (main_arg3 : FVec F S1 .f32) (main_arg4 : FVec F S8x256x256 .f32) (main_arg5 : FVec F S8x256x256 .f32) (main_arg6 : FVec F S4096x16 .f32) : IVec S2x4096x8x256 1 × IVec S8x256x256 1 × IVec S8x256x256 1 × IVec S4096x16 1 :=
  let main_v0 : FVec F S2x4096x8x256 .f32 := Host.absf main_arg0
  let main_cst : FVec F S_ .f32 := constant S_ .f32 0x7F800000#32
  let main_v1 : FVec F S2x4096x8x256 .f32 := broadcastInDim S2x4096x8x256 ![] bcast_S_S2x4096x8x256 main_cst
  let main_v2 : IVec S2x4096x8x256 1 := cmpf .olt main_v0 main_v1
  let main_v3 : FVec F S8x256x256 .f32 := Host.absf main_arg4
  let main_cst_0 : FVec F S_ .f32 := constant S_ .f32 0x7F800000#32
  let main_v4 : FVec F S8x256x256 .f32 := broadcastInDim S8x256x256 ![] bcast_S_S8x256x256 main_cst_0
  let main_v5 : IVec S8x256x256 1 := cmpf .olt main_v3 main_v4
  let main_v6 : FVec F S8x256x256 .f32 := Host.absf main_arg5
  let main_cst_1 : FVec F S_ .f32 := constant S_ .f32 0x7F800000#32
  let main_v7 : FVec F S8x256x256 .f32 := broadcastInDim S8x256x256 ![] bcast_S_S8x256x256 main_cst_1
  let main_v8 : IVec S8x256x256 1 := cmpf .olt main_v6 main_v7
  let main_v9 : FVec F S4096x16 .f32 := Host.absf main_arg6
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  (main_v2, main_v5, main_v8, main_v11)
-- ==== Kernel.lean ====
abbrev S2x4096x8x256 : Shape := ⟨4, ![2, 4096, 8, 256]⟩
abbrev S1 : Shape := ⟨1, ![1]⟩
abbrev S8x256x256 : Shape := ⟨3, ![8, 256, 256]⟩
abbrev S4096x16 : Shape := ⟨2, ![4096, 16]⟩
abbrev S8 : Shape := ⟨1, ![8]⟩
abbrev S4096 : Shape := ⟨1, ![4096]⟩
abbrev S8x1 : Shape := ⟨2, ![8, 1]⟩
abbrev S1x4096 : Shape := ⟨2, ![1, 4096]⟩
abbrev S8x4096 : Shape := ⟨2, ![8, 4096]⟩
abbrev S_ : Shape := ⟨0, ![]⟩
abbrev S16x4096 : Shape := ⟨2, ![16, 4096]⟩
abbrev S32x4096 : Shape := ⟨2, ![32, 4096]⟩
abbrev S4096x48 : Shape := ⟨2, ![4096, 48]⟩
abbrev S2x4096x2048 : Shape := ⟨3, ![2, 4096, 2048]⟩
abbrev S1x4096x256 : Shape := ⟨3, ![1, 4096, 256]⟩
abbrev S16x16x256 : Shape := ⟨3, ![16, 16, 256]⟩
abbrev S4096x256 : Shape := ⟨2, ![4096, 256]⟩
abbrev S32x256 : Shape := ⟨2, ![32, 256]⟩
abbrev S16x256 : Shape := ⟨2, ![16, 256]⟩
abbrev S1x16x256 : Shape := ⟨3, ![1, 16, 256]⟩
abbrev S16x1x256 : Shape := ⟨3, ![16, 1, 256]⟩
abbrev S1x256x256 : Shape := ⟨3, ![1, 256, 256]⟩
abbrev S256x256 : Shape := ⟨2, ![256, 256]⟩
abbrev S48x256 : Shape := ⟨2, ![48, 256]⟩

abbrev nBuf : Space → Nat
  | .hbm => 55
  | .vmem => 10
  | .smem => 0
  | _ => 0

abbrev bufTy : (tb : Table) → Fin (tcTables nBuf tb) → BufTy
  | .hbm, ⟨0, _⟩ => ⟨S2x4096x8x256, .f32⟩
  | .hbm, ⟨1, _⟩ => ⟨S2x4096x8x256, .f32⟩
  | .hbm, ⟨2, _⟩ => ⟨S2x4096x8x256, .f32⟩
  | .hbm, ⟨3, _⟩ => ⟨S1, .f32⟩
  | .hbm, ⟨4, _⟩ => ⟨S8x256x256, .f32⟩
  | .hbm, ⟨5, _⟩ => ⟨S8x256x256, .f32⟩
  | .hbm, ⟨6, _⟩ => ⟨S4096x16, .f32⟩
  | .hbm, ⟨7, _⟩ => ⟨S8, .i32⟩
  | .hbm, ⟨8, _⟩ => ⟨S4096, .i32⟩
  | .hbm, ⟨9, _⟩ => ⟨S8x1, .i32⟩
  | .hbm, ⟨10, _⟩ => ⟨S1x4096, .i32⟩
  | .hbm, ⟨11, _⟩ => ⟨S8x4096, .i32⟩
  | .hbm, ⟨12, _⟩ => ⟨S8x4096, .i32⟩
  | .hbm, ⟨13, _⟩ => ⟨S8x4096, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S8x4096, .i32⟩
  | .hbm, ⟨21, _⟩ => ⟨S8x4096, .i32⟩
  | .hbm, ⟨22, _⟩ => ⟨S_, .i32⟩
  | .hbm, ⟨23, _⟩ => ⟨S8x4096, .i32⟩
  | .hbm, ⟨24, _⟩ => ⟨S8x4096, .i1⟩
  | .hbm, ⟨25, _⟩ => ⟨S_, .i32⟩
  | .hbm, ⟨26, _⟩ => ⟨S8x4096, .i32⟩
  | .hbm, ⟨27, _⟩ => ⟨S8x4096, .i1⟩
  | .hbm, ⟨28, _⟩ => ⟨S_, .i32⟩
  | .hbm, ⟨29, _⟩ => ⟨S_, .i1⟩
  | .hbm, ⟨30, _⟩ => ⟨S8x4096, .i1⟩
  | .hbm, ⟨31, _⟩ => ⟨S8x4096, .i1⟩
  | .hbm, ⟨32, _⟩ => ⟨S8x4096, .i1⟩
  | .hbm, ⟨33, _⟩ => ⟨S8x4096, .i32⟩
  | .hbm, ⟨34, _⟩ => ⟨S8x4096, .i32⟩
  | .hbm, ⟨35, _⟩ => ⟨S8x4096, .i32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S8x4096, .f32⟩
  | .hbm, ⟨41, _⟩ => ⟨S8x4096, .f32⟩
  | .hbm, ⟨42, _⟩ => ⟨S8x4096, .f32⟩
  | .hbm, ⟨43, _⟩ => ⟨S16x4096, .f32⟩
  | .hbm, ⟨44, _⟩ => ⟨S16x4096, .bf16⟩
  | .hbm, ⟨45, _⟩ => ⟨S16x4096, .f32⟩
  | .hbm, ⟨46, _⟩ => ⟨S16x4096, .f32⟩
  | .hbm, ⟨47, _⟩ => ⟨S32x4096, .f32⟩
  | .hbm, ⟨48, _⟩ => ⟨S4096x16, .bf16⟩
  | .hbm, ⟨49, _⟩ => ⟨S4096x16, .f32⟩
  | .hbm, ⟨50, _⟩ => ⟨S4096x16, .f32⟩
  | .hbm, ⟨51, _⟩ => ⟨S4096x48, .f32⟩
  | .hbm, ⟨52, _⟩ => ⟨S2x4096x2048, .f32⟩
  | .hbm, ⟨53, _⟩ => ⟨S2x4096x2048, .f32⟩
  | .hbm, ⟨54, _⟩ => ⟨S2x4096x8x256, .f32⟩
  | .local _ .vmem, ⟨0, _⟩ => ⟨S1x4096x256, .f32⟩
  | .local _ .vmem, ⟨1, _⟩ => ⟨S1x4096x256, .f32⟩
  | .local _ .vmem, ⟨2, _⟩ => ⟨S8x256x256, .f32⟩
  | .local _ .vmem, ⟨3, _⟩ => ⟨S8x256x256, .f32⟩
  | .local _ .vmem, ⟨4, _⟩ => ⟨S32x4096, .f32⟩
  | .local _ .vmem, ⟨5, _⟩ => ⟨S4096x48, .f32⟩
  | .local _ .vmem, ⟨6, _⟩ => ⟨S1x4096x256, .f32⟩
  | .local _ .vmem, ⟨7, _⟩ => ⟨S1x4096x256, .f32⟩
  | .local _ .vmem, ⟨8, _⟩ => ⟨S16x16x256, .f32⟩
  | .local _ .vmem, ⟨9, _⟩ => ⟨S16x16x256, .f32⟩
  | _, _ => ⟨S2x4096x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v18 : Index := Scalar.indexCast arg0
  let c0_8 : Index := 0#32
  let c0_9 : Index := 0#32
  ![v18.toNat, 0, 0]
def k0_cond3 (i : grid0.Coords) : BitVec 1 :=
  let arg0 : BitVec 32 := BitVec.ofNat 32 (i 0).val
  let c16_i32_2 : BitVec 32 := 16#32
  let v6 : BitVec 1 := Scalar.cmpi .sgt arg0 c16_i32_2
  let v7 : BitVec 32 := Scalar.extui v6
  let c0_i32_3 : BitVec 32 := 0#32
  let v8 : BitVec 1 := Scalar.cmpi .ne v7 c0_i32_3
  v8

def k0_off2 (i : grid0.Coords) : Fin 3 → Nat :=
  let arg0 : BitVec 32 := BitVec.ofNat 32 (i 0).val
  let c16_i32_4 : BitVec 32 := 16#32
  let v9 : BitVec 32 := Scalar.subi arg0 c16_i32_4
  let c1_i32 : BitVec 32 := 1#32
  let v10 : BitVec 32 := Scalar.subi v9 c1_i32
  let v11 : Index := Scalar.indexCast v10
  let c0 : Index := 0#32
  let c0_5 : Index := 0#32
  ![v11.toNat, 0, 0]
def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.subi arg0 c16_i32
  let c1_i32 : BitVec 32 := 1#32
  let v1 : BitVec 32 := Scalar.subi v0 c1_i32
  let c0_i32 : BitVec 32 := 0#32
  let c15_i32 : BitVec 32 := 15#32
  let v2 : BitVec 32 := Scalar.maxsi c0_i32 v1
  let v3 : BitVec 32 := Scalar.minsi c15_i32 v2
  let c8_i32 : BitVec 32 := 8#32
  let v4 : BitVec 32 := Scalar.divsi v3 c8_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.subi arg0 c16_i32_6
  let c1_i32_7 : BitVec 32 := 1#32
  let v22 : BitVec 32 := Scalar.subi v21 c1_i32_7
  let c0_i32_8 : BitVec 32 := 0#32
  let c15_i32_9 : BitVec 32 := 15#32
  let v23 : BitVec 32 := Scalar.maxsi c0_i32_8 v22
  let v24 : BitVec 32 := Scalar.minsi c15_i32_9 v23
  let c8_i32_10 : BitVec 32 := 8#32
  let c0_i32_11 : BitVec 32 := 0#32
  let v25 : BitVec 1 := Scalar.cmpi .eq c8_i32_10 c0_i32_11
  let c1_i32_12 : BitVec 32 := 1#32
  let v26 : BitVec 32 := Scalar.select v25 c1_i32_12 c8_i32_10
  let v27 : BitVec 32 := Scalar.remsi v24 v26
  let c0_i32_13 : BitVec 32 := 0#32
  let v28 : BitVec 1 := Scalar.cmpi .ne v27 c0_i32_13
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let v32 : BitVec 1 := Scalar.andi v31 v28
  let v33 : BitVec 32 := Scalar.addi v27 v26
  let v34 : BitVec 32 := Scalar.select v32 v33 v27
  let c0_i32_16 : BitVec 32 := 0#32
  let c0_i32_17 : BitVec 32 := 0#32
  ![v20.toNat, c0_i32_16.toNat, v34.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2x4096x8x256 : Shape := ⟨4, ![2, 4096, 8, 256]⟩
abbrev S1 : Shape := ⟨1, ![1]⟩
abbrev S8x256x256 : Shape := ⟨3, ![8, 256, 256]⟩
abbrev S4096x16 : Shape := ⟨2, ![4096, 16]⟩
abbrev S8 : Shape := ⟨1, ![8]⟩
abbrev S4096 : Shape := ⟨1, ![4096]⟩
abbrev S8x1 : Shape := ⟨2, ![8, 1]⟩
abbrev S1x4096 : Shape := ⟨2, ![1, 4096]⟩
abbrev S8x4096 : Shape := ⟨2, ![8, 4096]⟩
abbrev S_ : Shape := ⟨0, ![]⟩
abbrev S8x2x8x256 : Shape := ⟨4, ![8, 2, 8, 256]⟩
abbrev S16x2x8x256 : Shape := ⟨4, ![16, 2, 8, 256]⟩
abbrev S2x8x256x4096 : Shape := ⟨4, ![2, 8, 256, 4096]⟩

abbrev nBuf : Space → Nat
  | .hbm => 54
  | .vmem => 0
  | .smem => 0
  | _ => 0

abbrev bufTy : (tb : Table) → Fin (tcTables nBuf tb) → BufTy
  | .hbm, ⟨0, _⟩ => ⟨S2x4096x8x256, .f32⟩
  | .hbm, ⟨1, _⟩ => ⟨S2x4096x8x256, .f32⟩
  | .hbm, ⟨2, _⟩ => ⟨S2x4096x8x256, .f32⟩
  | .hbm, ⟨3, _⟩ => ⟨S1, .f32⟩
  | .hbm, ⟨4, _⟩ => ⟨S8x256x256, .f32⟩
  | .hbm, ⟨5, _⟩ => ⟨S8x256x256, .f32⟩
  | .hbm, ⟨6, _⟩ => ⟨S4096x16, .f32⟩
  | .hbm, ⟨7, _⟩ => ⟨S8, .i32⟩
  | .hbm, ⟨8, _⟩ => ⟨S4096, .i32⟩
  | .hbm, ⟨9, _⟩ => ⟨S8x1, .i32⟩
  | .hbm, ⟨10, _⟩ => ⟨S1x4096, .i32⟩
  | .hbm, ⟨11, _⟩ => ⟨S8x4096, .i32⟩
  | .hbm, ⟨12, _⟩ => ⟨S8x4096, .i32⟩
  | .hbm, ⟨13, _⟩ => ⟨S8x4096, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S8x4096, .i32⟩
  | .hbm, ⟨21, _⟩ => ⟨S8x4096, .i32⟩
  | .hbm, ⟨22, _⟩ => ⟨S_, .i32⟩
  | .hbm, ⟨23, _⟩ => ⟨S8x4096, .i32⟩
  | .hbm, ⟨24, _⟩ => ⟨S8x4096, .i1⟩
  | .hbm, ⟨25, _⟩ => ⟨S_, .i32⟩
  | .hbm, ⟨26, _⟩ => ⟨S8x4096, .i32⟩
  | .hbm, ⟨27, _⟩ => ⟨S8x4096, .i1⟩
  | .hbm, ⟨28, _⟩ => ⟨S_, .i32⟩
  | .hbm, ⟨29, _⟩ => ⟨S_, .i1⟩
  | .hbm, ⟨30, _⟩ => ⟨S8x4096, .i1⟩
  | .hbm, ⟨31, _⟩ => ⟨S8x4096, .i1⟩
  | .hbm, ⟨32, _⟩ => ⟨S8x4096, .i1⟩
  | .hbm, ⟨33, _⟩ => ⟨S8x4096, .i32⟩
  | .hbm, ⟨34, _⟩ => ⟨S8x4096, .i32⟩
  | .hbm, ⟨35, _⟩ => ⟨S8x4096, .i32⟩
  | .hbm, ⟨36, _⟩ => ⟨S8x4096, .f32⟩
  | .hbm, ⟨37, _⟩ => ⟨S_, .f32⟩
  | .hbm, ⟨38, _⟩ => ⟨S8x4096, .f32⟩
  | .hbm, ⟨39, _⟩ => ⟨S8x4096, .f32⟩
  | .hbm, ⟨40, _⟩ => ⟨S8x4096, .f32⟩
  | .hbm, ⟨41, _⟩ => ⟨S8x2x8x256, .f32⟩
  | .hbm, ⟨42, _⟩ => ⟨S8x4096, .f32⟩
  | .hbm, ⟨43, _⟩ => ⟨S8x2x8x256, .f32⟩
  | .hbm, ⟨44, _⟩ => ⟨S8x2x8x256, .f32⟩
  | .hbm, ⟨45, _⟩ => ⟨S8x2x8x256, .f32⟩
  | .hbm, ⟨46, _⟩ => ⟨S8x2x8x256, .f32⟩
  | .hbm, ⟨47, _⟩ => ⟨S8x2x8x256, .f32⟩
  | .hbm, ⟨48, _⟩ => ⟨S8x2x8x256, .f32⟩
  | .hbm, ⟨49, _⟩ => ⟨S8x2x8x256, .f32⟩
  | .hbm, ⟨50, _⟩ => ⟨S8x2x8x256, .f32⟩
  | .hbm, ⟨51, _⟩ => ⟨S16x2x8x256, .f32⟩
  | .hbm, ⟨52, _⟩ => ⟨S2x8x256x4096, .f32⟩
  | .hbm, ⟨53, _⟩ => ⟨S2x4096x8x256, .f32⟩
  | _, _ => ⟨S2x4096x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v7 : Ref sig .tc := ⟨.hbm, 35, rfl⟩
abbrev main_v8 : Ref sig .tc := ⟨.hbm, 36, rfl⟩
abbrev main_cst : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩

abbrev nD : Nat := 1
abbrev τ : Topo := Topo.v7x

variable {F : FTy → Type} [FloatOps F]
-- ==== KernelAtIdeal.lean ====
abbrev S1 : Shape := ⟨1, ![1]⟩
abbrev S4096 : Shape := ⟨1, ![4096]⟩
abbrev S_ : Shape := ⟨0, ![]⟩
abbrev S1x4096x1x1 : Shape := ⟨4, ![1, 4096, 1, 1]⟩
abbrev S2x4096x8x256 : Shape := ⟨4, ![2, 4096, 8, 256]⟩
abbrev S8x256x256 : Shape := ⟨3, ![8, 256, 256]⟩
abbrev S8 : Shape := ⟨1, ![8]⟩
abbrev S8x1 : Shape := ⟨2, ![8, 1]⟩
abbrev S1x4096 : Shape := ⟨2, ![1, 4096]⟩
abbrev S8x4096 : Shape := ⟨2, ![8, 4096]⟩
abbrev S16x4096 : Shape := ⟨2, ![16, 4096]⟩
abbrev S32x4096 : Shape := ⟨2, ![32, 4096]⟩
abbrev S2 : Shape := ⟨1, ![2]⟩
abbrev S4096x16 : Shape := ⟨2, ![4096, 16]⟩
abbrev S4096x48 : Shape := ⟨2, ![4096, 48]⟩
abbrev S2x4096x2048 : Shape := ⟨3, ![2, 4096, 2048]⟩
abbrev S1x4096x256 : Shape := ⟨3, ![1, 4096, 256]⟩
abbrev S16x16x256 : Shape := ⟨3, ![16, 16, 256]⟩
abbrev S4096x256 : Shape := ⟨2, ![4096, 256]⟩
abbrev S32x256 : Shape := ⟨2, ![32, 256]⟩
abbrev S16x256 : Shape := ⟨2, ![16, 256]⟩
abbrev S1x16x256 : Shape := ⟨3, ![1, 16, 256]⟩
abbrev S16x1x256 : Shape := ⟨3, ![16, 1, 256]⟩
abbrev S1x256x256 : Shape := ⟨3, ![1, 256, 256]⟩
abbrev S256x256 : Shape := ⟨2, ![256, 256]⟩
abbrev S48x256 : Shape := ⟨2, ![48, 256]⟩

abbrev nBuf : Space → Nat
  | .hbm => 88
  | .vmem => 10
  | .smem => 0
  | _ => 0

abbrev bufTy : (tb : Table) → Fin (tcTables nBuf tb) → BufTy
  | .hbm, ⟨0, _⟩ => ⟨S1, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S1x4096x1x1, .f32⟩
  | .hbm, ⟨11, _⟩ => ⟨S2x4096x8x256, .f32⟩
  | .hbm, ⟨12, _⟩ => ⟨S_, .f32⟩
  | .hbm, ⟨13, _⟩ => ⟨S8x256x256, .f32⟩
  | .hbm, ⟨14, _⟩ => ⟨S_, .f32⟩
  | .hbm, ⟨15, _⟩ => ⟨S8x256x256, .f32⟩
  | .hbm, ⟨16, _⟩ => ⟨S8, .i32⟩
  | .hbm, ⟨17, _⟩ => ⟨S4096, .i32⟩
  | .hbm, ⟨18, _⟩ => ⟨S8x1, .i32⟩
  | .hbm, ⟨19, _⟩ => ⟨S1x4096, .i32⟩
  | .hbm, ⟨20, _⟩ => ⟨S8x4096, .i32⟩
  | .hbm, ⟨21, _⟩ => ⟨S8x4096, .i32⟩
  | .hbm, ⟨22, _⟩ => ⟨S8x4096, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S8x4096, .i32⟩
  | .hbm, ⟨30, _⟩ => ⟨S8x4096, .i32⟩
  | .hbm, ⟨31, _⟩ => ⟨S_, .i32⟩
  | .hbm, ⟨32, _⟩ => ⟨S8x4096, .i32⟩
  | .hbm, ⟨33, _⟩ => ⟨S8x4096, .i1⟩
  | .hbm, ⟨34, _⟩ => ⟨S_, .i32⟩
  | .hbm, ⟨35, _⟩ => ⟨S8x4096, .i32⟩
  | .hbm, ⟨36, _⟩ => ⟨S8x4096, .i1⟩
  | .hbm, ⟨37, _⟩ => ⟨S_, .i32⟩
  | .hbm, ⟨38, _⟩ => ⟨S_, .i1⟩
  | .hbm, ⟨39, _⟩ => ⟨S8x4096, .i1⟩
  | .hbm, ⟨40, _⟩ => ⟨S8x4096, .i1⟩
  | .hbm, ⟨41, _⟩ => ⟨S8x4096, .i1⟩
  | .hbm, ⟨42, _⟩ => ⟨S8x4096, .i32⟩
  | .hbm, ⟨43, _⟩ => ⟨S8x4096, .i32⟩
  | .hbm, ⟨44, _⟩ => ⟨S8x4096, .i32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .f32⟩
  | .hbm, ⟨49, _⟩ => ⟨S8x4096, .f32⟩
  | .hbm, ⟨50, _⟩ => ⟨S8x4096, .f32⟩
  | .hbm, ⟨51, _⟩ => ⟨S8x4096, .f32⟩
  | .hbm, ⟨52, _⟩ => ⟨S16x4096, .f32⟩
  | .hbm, ⟨53, _⟩ => ⟨S16x4096, .bf16⟩
  | .hbm, ⟨54, _⟩ => ⟨S16x4096, .f32⟩
  | .hbm, ⟨55, _⟩ => ⟨S16x4096, .f32⟩
  | .hbm, ⟨56, _⟩ => ⟨S32x4096, .f32⟩
  | .hbm, ⟨57, _⟩ => ⟨S_, .f32⟩
  | .hbm, ⟨58, _⟩ => ⟨S8x1, .f32⟩
  | .hbm, ⟨59, _⟩ => ⟨S_, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S2, .i32⟩
  | .hbm, ⟨64, _⟩ => ⟨S_, .f32⟩
  | .hbm, ⟨65, _⟩ => ⟨S8x1, .f32⟩
  | .hbm, ⟨66, _⟩ => ⟨S_, .f32⟩
  | .hbm, ⟨67, _⟩ => ⟨S8x1, .f32⟩
  | .hbm, ⟨68, _⟩ => ⟨S_, .i32⟩
  | .hbm, ⟨69, _⟩ => ⟨S1, .i32⟩
  | .hbm, ⟨70, _⟩ => ⟨S_, .i32⟩
  | .hbm, ⟨71, _⟩ => ⟨S1, .i32⟩
  | .hbm, ⟨72, _⟩ => ⟨S2, .i32⟩
  | .hbm, ⟨73, _⟩ => ⟨S_, .f32⟩
  | .hbm, ⟨74, _⟩ => ⟨S8x1, .f32⟩
  | .hbm, ⟨75, _⟩ => ⟨S8x4096, .f32⟩
  | .hbm, ⟨76, _⟩ => ⟨S8x4096, .f32⟩
  | .hbm, ⟨77, _⟩ => ⟨S8x4096, .f32⟩
  | .hbm, ⟨78, _⟩ => ⟨S8x4096, .f32⟩
  | .hbm, ⟨79, _⟩ => ⟨S16x4096, .f32⟩
  | .hbm, ⟨80, _⟩ => ⟨S4096x16, .f32⟩
  | .hbm, ⟨81, _⟩ => ⟨S4096x16, .bf16⟩
  | .hbm, ⟨82, _⟩ => ⟨S4096x16, .f32⟩
  | .hbm, ⟨83, _⟩ => ⟨S4096x16, .f32⟩
  | .hbm, ⟨84, _⟩ => ⟨S4096x48, .f32⟩
  | .hbm, ⟨85, _⟩ => ⟨S2x4096x2048, .f32⟩
  | .hbm, ⟨86, _⟩ => ⟨S2x4096x2048, .f32⟩
  | .hbm, ⟨87, _⟩ => ⟨S2x4096x8x256, .f32⟩
  | .local _ .vmem, ⟨0, _⟩ => ⟨S1x4096x256, .f32⟩
  | .local _ .vmem, ⟨1, _⟩ => ⟨S1x4096x256, .f32⟩
  | .local _ .vmem, ⟨2, _⟩ => ⟨S8x256x256, .f32⟩
  | .local _ .vmem, ⟨3, _⟩ => ⟨S8x256x256, .f32⟩
  | .local _ .vmem, ⟨4, _⟩ => ⟨S32x4096, .f32⟩
  | .local _ .vmem, ⟨5, _⟩ => ⟨S4096x48, .f32⟩
  | .local _ .vmem, ⟨6, _⟩ => ⟨S1x4096x256, .f32⟩
  | .local _ .vmem, ⟨7, _⟩ => ⟨S1x4096x256, .f32⟩
  | .local _ .vmem, ⟨8, _⟩ => ⟨S16x16x256, .f32⟩
  | .local _ .vmem, ⟨9, _⟩ => ⟨S16x16x256, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v15 : Ref sig .tc := ⟨.hbm, 44, rfl⟩
abbrev main_v16 : Ref sig .tc := ⟨.hbm, 45, rfl⟩
abbrev main_cst_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_c_6 : Ref sig .tc := ⟨.hbm, 59, rfl⟩
abbrev main_v28 : Ref sig .tc := ⟨.hbm, 60, rfl⟩
abbrev main_c_7 : Ref sig .tc := ⟨.hbm, 61, rfl⟩
abbrev main_v29 : Ref sig .tc := ⟨.hbm, 62, rfl⟩
abbrev main_v30 : Ref sig .tc := ⟨.hbm, 63, rfl⟩
abbrev main_cst_8 : Ref sig .tc := ⟨.hbm, 64, rfl⟩
abbrev main_v31 : Ref sig .tc := ⟨.hbm, 65, rfl⟩
abbrev main_cst_9 : Ref sig .tc := ⟨.hbm, 66, rfl⟩
abbrev main_v32 : Ref sig .tc := ⟨.hbm, 67, rfl⟩
abbrev main_c_10 : Ref sig .tc := ⟨.hbm, 68, rfl⟩
abbrev main_v33 : Ref sig .tc := ⟨.hbm, 69, rfl⟩
abbrev main_c_11 : Ref sig .tc := ⟨.hbm, 70, rfl⟩
abbrev main_v34 : Ref sig .tc := ⟨.hbm, 71, rfl⟩
abbrev main_v35 : Ref sig .tc := ⟨.hbm, 72, rfl⟩
abbrev main_cst_12 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v18 : Index := Scalar.indexCast arg0
  let c0_8 : Index := 0#32
  let c0_9 : Index := 0#32
  ![v18.toNat, 0, 0]
def k0_cond3 (i : grid0.Coords) : BitVec 1 :=
  let arg0 : BitVec 32 := BitVec.ofNat 32 (i 0).val
  let c16_i32_2 : BitVec 32 := 16#32
  let v6 : BitVec 1 := Scalar.cmpi .sgt arg0 c16_i32_2
  let v7 : BitVec 32 := Scalar.extui v6
  let c0_i32_3 : BitVec 32 := 0#32
  let v8 : BitVec 1 := Scalar.cmpi .ne v7 c0_i32_3
  v8

def k0_off2 (i : grid0.Coords) : Fin 3 → Nat :=
  let arg0 : BitVec 32 := BitVec.ofNat 32 (i 0).val
  let c16_i32_4 : BitVec 32 := 16#32
  let v9 : BitVec 32 := Scalar.subi arg0 c16_i32_4
  let c1_i32 : BitVec 32 := 1#32
  let v10 : BitVec 32 := Scalar.subi v9 c1_i32
  let v11 : Index := Scalar.indexCast v10
  let c0 : Index := 0#32
  let c0_5 : Index := 0#32
  ![v11.toNat, 0, 0]
def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c15_i32_4 : BitVec 32 := 15#32
  let v18 : BitVec 32 := Scalar.minsi arg0 c15_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, c0_i32_11.toNat, v28.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c16_i32 : BitVec 32 := 16#32
  let v0 : BitVec 32 := Scalar.subi arg0 c16_i32
  let c1_i32 : BitVec 32 := 1#32
  let v1 : BitVec 32 := Scalar.subi v0 c1_i32
  let c0_i32 : BitVec 32 := 0#32
  let c15_i32 : BitVec 32 := 15#32
  let v2 : BitVec 32 := Scalar.maxsi c0_i32 v1
  let v3 : BitVec 32 := Scalar.minsi c15_i32 v2
  let c8_i32 : BitVec 32 := 8#32
  let v4 : BitVec 32 := Scalar.divsi v3 c8_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c8_i32 c0_i32_2
  let v11 : BitVec 32 := Scalar.extui v10
  let c0_i32_3 : BitVec 32 := 0#32
  let v12 : BitVec 1 := Scalar.cmpi .slt c8_i32 c0_i32_3
  let v13 : BitVec 32 := Scalar.extui v12
  let v14 : BitVec 32 := Scalar.subi v11 v13
  let v15 : BitVec 1 := Scalar.cmpi .ne v9 v14
  let v16 : BitVec 32 := Scalar.remsi v3 c8_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let c16_i32_6 : BitVec 32 := 16#32
  let v21 : BitVec 32 := Scalar.subi arg0 c16_i32_6
  let c1_i32_7 : BitVec 32 := 1#32
  let v22 : BitVec 32 := Scalar.subi v21 c1_i32_7
  let c0_i32_8 : BitVec 32 := 0#32
  let c15_i32_9 : BitVec 32 := 15#32
  let v23 : BitVec 32 := Scalar.maxsi c0_i32_8 v22
  let v24 : BitVec 32 := Scalar.minsi c15_i32_9 v23
  let c8_i32_10 : BitVec 32 := 8#32
  let c0_i32_11 : BitVec 32 := 0#32
  let v25 : BitVec 1 := Scalar.cmpi .eq c8_i32_10 c0_i32_11
  let c1_i32_12 : BitVec 32 := 1#32
  let v26 : BitVec 32 := Scalar.select v25 c1_i32_12 c8_i32_10
  let v27 : BitVec 32 := Scalar.remsi v24 v26
  let c0_i32_13 : BitVec 32 := 0#32
  let v28 : BitVec 1 := Scalar.cmpi .ne v27 c0_i32_13
  let c0_i32_14 : BitVec 32 := 0#32
  let v29 : BitVec 1 := Scalar.cmpi .slt v27 c0_i32_14
  let c0_i32_15 : BitVec 32 := 0#32
  let v30 : BitVec 1 := Scalar.cmpi .slt v26 c0_i32_15
  let v31 : BitVec 1 := Scalar.xori v29 v30
  let v32 : BitVec 1 := Scalar.andi v31 v28
  let v33 : BitVec 32 := Scalar.addi v27 v26
  let v34 : BitVec 32 := Scalar.select v32 v33 v27
  let c0_i32_16 : BitVec 32 := 0#32
  let c0_i32_17 : BitVec 32 := 0#32
  ![v20.toNat, c0_i32_16.toNat, v34.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MathematicsAtIdeal.lean ====
abbrev S1 : Shape := ⟨1, ![1]⟩
abbrev S4096 : Shape := ⟨1, ![4096]⟩
abbrev S_ : Shape := ⟨0, ![]⟩
abbrev S1x4096x1x1 : Shape := ⟨4, ![1, 4096, 1, 1]⟩
abbrev S2x4096x8x256 : Shape := ⟨4, ![2, 4096, 8, 256]⟩
abbrev S8x256x256 : Shape := ⟨3, ![8, 256, 256]⟩
abbrev S8 : Shape := ⟨1, ![8]⟩
abbrev S8x1 : Shape := ⟨2, ![8, 1]⟩
abbrev S1x4096 : Shape := ⟨2, ![1, 4096]⟩
abbrev S8x4096 : Shape := ⟨2, ![8, 4096]⟩
abbrev S8x2x8x256 : Shape := ⟨4, ![8, 2, 8, 256]⟩
abbrev S2x8x256x4096 : Shape := ⟨4, ![2, 8, 256, 4096]⟩

abbrev nBuf : Space → Nat
  | .hbm => 80
  | .vmem => 0
  | .smem => 0
  | _ => 0

abbrev bufTy : (tb : Table) → Fin (tcTables nBuf tb) → BufTy
  | .hbm, ⟨0, _⟩ => ⟨S1, .f32⟩
  | .hbm, ⟨1, _⟩ => ⟨S4096, .i32⟩
  | .hbm, ⟨2, _⟩ => ⟨S_, .i32⟩
  | .hbm, ⟨3, _⟩ => ⟨S4096, .i32⟩
  | .hbm, ⟨4, _⟩ => ⟨S4096, .i1⟩
  | .hbm, ⟨5, _⟩ => ⟨S_, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096, .f32⟩
  | .hbm, ⟨10, _⟩ => ⟨S1x4096x1x1, .f32⟩
  | .hbm, ⟨11, _⟩ => ⟨S2x4096x8x256, .f32⟩
  | .hbm, ⟨12, _⟩ => ⟨S_, .f32⟩
  | .hbm, ⟨13, _⟩ => ⟨S8x256x256, .f32⟩
  | .hbm, ⟨14, _⟩ => ⟨S_, .f32⟩
  | .hbm, ⟨15, _⟩ => ⟨S8x256x256, .f32⟩
  | .hbm, ⟨16, _⟩ => ⟨S8, .i32⟩
  | .hbm, ⟨17, _⟩ => ⟨S4096, .i32⟩
  | .hbm, ⟨18, _⟩ => ⟨S8x1, .i32⟩
  | .hbm, ⟨19, _⟩ => ⟨S1x4096, .i32⟩
  | .hbm, ⟨20, _⟩ => ⟨S8x4096, .i32⟩
  | .hbm, ⟨21, _⟩ => ⟨S8x4096, .i32⟩
  | .hbm, ⟨22, _⟩ => ⟨S8x4096, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S8x4096, .i32⟩
  | .hbm, ⟨30, _⟩ => ⟨S8x4096, .i32⟩
  | .hbm, ⟨31, _⟩ => ⟨S_, .i32⟩
  | .hbm, ⟨32, _⟩ => ⟨S8x4096, .i32⟩
  | .hbm, ⟨33, _⟩ => ⟨S8x4096, .i1⟩
  | .hbm, ⟨34, _⟩ => ⟨S_, .i32⟩
  | .hbm, ⟨35, _⟩ => ⟨S8x4096, .i32⟩
  | .hbm, ⟨36, _⟩ => ⟨S8x4096, .i1⟩
  | .hbm, ⟨37, _⟩ => ⟨S_, .i32⟩
  | .hbm, ⟨38, _⟩ => ⟨S_, .i1⟩
  | .hbm, ⟨39, _⟩ => ⟨S8x4096, .i1⟩
  | .hbm, ⟨40, _⟩ => ⟨S8x4096, .i1⟩
  | .hbm, ⟨41, _⟩ => ⟨S8x4096, .i1⟩
  | .hbm, ⟨42, _⟩ => ⟨S8x4096, .i32⟩
  | .hbm, ⟨43, _⟩ => ⟨S8x4096, .i32⟩
  | .hbm, ⟨44, _⟩ => ⟨S8x4096, .i32⟩
  | .hbm, ⟨45, _⟩ => ⟨S8x4096, .f32⟩
  | .hbm, ⟨46, _⟩ => ⟨S_, .f32⟩
  | .hbm, ⟨47, _⟩ => ⟨S8x4096, .f32⟩
  | .hbm, ⟨48, _⟩ => ⟨S8x4096, .f32⟩
  | .hbm, ⟨49, _⟩ => ⟨S8x4096, .f32⟩
  | .hbm, ⟨50, _⟩ => ⟨S8x2x8x256, .f32⟩
  | .hbm, ⟨51, _⟩ => ⟨S8x4096, .f32⟩
  | .hbm, ⟨52, _⟩ => ⟨S8x2x8x256, .f32⟩
  | .hbm, ⟨53, _⟩ => ⟨S8x2x8x256, .f32⟩
  | .hbm, ⟨54, _⟩ => ⟨S8x2x8x256, .f32⟩
  | .hbm, ⟨55, _⟩ => ⟨S8x2x8x256, .f32⟩
  | .hbm, ⟨56, _⟩ => ⟨S8x2x8x256, .f32⟩
  | .hbm, ⟨57, _⟩ => ⟨S8x2x8x256, .f32⟩
  | .hbm, ⟨58, _⟩ => ⟨S8x2x8x256, .f32⟩
  | .hbm, ⟨59, _⟩ => ⟨S8x2x8x256, .f32⟩
  | .hbm, ⟨60, _⟩ => ⟨S_, .i32⟩
  | .hbm, ⟨61, _⟩ => ⟨S8, .i32⟩
  | .hbm, ⟨62, _⟩ => ⟨S8, .i1⟩
  | .hbm, ⟨63, _⟩ => ⟨S_, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S8, .f32⟩
  | .hbm, ⟨68, _⟩ => ⟨S8x1, .f32⟩
  | .hbm, ⟨69, _⟩ => ⟨S8x4096, .f32⟩
  | .hbm, ⟨70, _⟩ => ⟨S8x4096, .f32⟩
  | .hbm, ⟨71, _⟩ => ⟨S8x4096, .f32⟩
  | .hbm, ⟨72, _⟩ => ⟨S2x8x256x4096, .f32⟩
  | .hbm, ⟨73, _⟩ => ⟨S2x4096x8x256, .f32⟩
  | .hbm, ⟨74, _⟩ => ⟨S8x4096, .f32⟩
  | .hbm, ⟨75, _⟩ => ⟨S8x4096, .f32⟩
  | .hbm, ⟨76, _⟩ => ⟨S8x4096, .f32⟩
  | .hbm, ⟨77, _⟩ => ⟨S2x8x256x4096, .f32⟩
  | .hbm, ⟨78, _⟩ => ⟨S2x4096x8x256, .f32⟩
  | .hbm, ⟨79, _⟩ => ⟨S2x4096x8x256, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v15 : Ref sig .tc := ⟨.hbm, 44, rfl⟩
abbrev main_v16 : Ref sig .tc := ⟨.hbm, 45, rfl⟩
abbrev main_cst_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_c_5 : Ref sig .tc := ⟨.hbm, 60, rfl⟩
abbrev main_v30 : Ref sig .tc := ⟨.hbm, 61, rfl⟩
abbrev main_v31 : Ref sig .tc := ⟨.hbm, 62, rfl⟩
abbrev main_cst_6 : Ref sig .tc := ⟨.hbm, 63, rfl⟩
abbrev main_cst_7 : Ref sig .tc := ⟨.hbm, 64, rfl⟩
abbrev main_call2_v0 : Ref sig .tc := ⟨.hbm, 65, rfl⟩
abbrev main_call2_v1 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩

abbrev nD : Nat := 1
abbrev τ : Topo := Topo.v7x

variable {F : FTy → Type} [FloatOps F]
-- ==== Proof.KI.Body.lean ====
/-
  The kernel body of `KernelIdeal`, one triple per phase of the grid: a forward point (one product with the transform's table, stored as
  one slab of the first scratch), the mixing point (eight complex products, stored as the sixteen rows of the second scratch) and an
  inverse point (the product of the inverse basis with one slab of the second scratch, stored as the output block).
-/
module

public import proofs.«01_k».proof.Proof.Gen.KernelIdeal.Frame
public import proofs.«01_k».proof.Proof.Gen.KernelIdeal.Skeleton
public import Idealize.ShloMosaic.Lib.Claim
public import Idealize.ShloMosaic.Lib.WritesUnit
public import Idealize.ShloMosaic.Lib.VecWindow
public import Idealize.ShloMosaic.Lib.ValueIdxCore

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The word the middle branch tests: the point is number 16. -/
abbrev cond2 (i : grid0.Coords) : BitVec 1 :=
  let v3 : BitVec 1 := Scalar.cmpi .eq (BitVec.ofNat 32 (i 0).val) 16#32
  let v4 : BitVec 32 := Scalar.extui v3
  Scalar.cmpi .ne v4 0#32

/-- The three branches, decided over the 33 points. -/
theorem conds : ∀ i : grid0.Coords, (k0_cond1 i = 1#1 ↔ (i 0).val < 16) ∧ (cond2 i = 1#1 ↔ (i 0).val = 16)
    ∧ (k0_cond3 i = 1#1 ↔ 16 < (i 0).val) := by decide +kernel

/-- The slab an inverse point reads, decided over the 33 points. -/
theorem off2 : ∀ i : grid0.Coords, 16 < (i 0).val → k0_off2 i 0 = ((i 0).val - 17) % 16 ∧ k0_off2 i 1 = 0 ∧ k0_off2 i 2 = 0 := by
  decide +kernel

/-! ## The accesses -/

/-- The whole block of the signal. -/
abbrev rq : Rect S1x4096x256 := Rect.unit (s := S1x4096x256) ![0, 0, 0] S1x4096x256.size inb_S1x4096x256_S1x4096x256_0_0_0
/-- The whole forward basis. -/
abbrev rbf : Rect S32x4096 := Rect.unit (s := S32x4096) ![0, 0] S32x4096.size inb_S32x4096_S32x4096_0_0
/-- The whole inverse basis. -/
abbrev rbi : Rect S4096x48 := Rect.unit (s := S4096x48) ![0, 0] S4096x48.size inb_S4096x48_S4096x48_0_0

/-- Row `k` of a scratch: all sixteen slabs at their row `k`. -/
abbrev rrow (k : Fin 16) : Rect S16x16x256 := Rect.unit (s := S16x16x256) ![0, k.val, 0] S16x1x256.size (by
  have := k.isLt
  intro a; match a with
  | ⟨0, _⟩ => show 0 + 16 ≤ 16; omega
  | ⟨1, _⟩ => show k.val + 1 ≤ 16; omega
  | ⟨2, _⟩ => show 0 + 256 ≤ 256; omega)
/-- Mode `k`'s weight matrix. -/
abbrev rmode (k : Fin 8) : Rect S8x256x256 := Rect.unit (s := S8x256x256) ![k.val, 0, 0] S1x256x256.size (by
  have := k.isLt
  intro a; match a with
  | ⟨0, _⟩ => show k.val + 1 ≤ 8; omega
  | ⟨1, _⟩ => show 0 + 256 ≤ 256; omega
  | ⟨2, _⟩ => show 0 + 256 ≤ 256; omega)
/-- Row `k` and row `8 + k` of the sixteen: the real and the imaginary part of mode `k`. -/
abbrev kre (k : Fin 8) : Fin 16 := ⟨k.val, by have := k.isLt; omega⟩
/-- The row of a mode's imaginary part. -/
abbrev kim (k : Fin 8) : Fin 16 := ⟨8 + k.val, by have := k.isLt; omega⟩

/-- Mode `k` mixed: the real part and the imaginary part, a row each of the sixteen pairs. -/
def mixRe (x2 x3 : Vec F S8x256x256 .f32) (x7 : Vec F S16x16x256 .f32) (k : Fin 8) : Vec F S16x1x256 .f32 :=
  k0_pay6 (View.ld x7 (rrow (kre k))) (View.ld x7 (rrow (kim k))) (View.ld x2 (rmode k)) (View.ld x3 (rmode k))
/-- The imaginary part of a mixed mode. -/
def mixIm (x2 x3 : Vec F S8x256x256 .f32) (x7 : Vec F S16x16x256 .f32) (k : Fin 8) : Vec F S16x1x256 .f32 :=
  k0_pay7 (View.ld x7 (rrow (kre k))) (View.ld x7 (rrow (kim k))) (View.ld x2 (rmode k)) (View.ld x3 (rmode k))

/-- What the mixing point leaves in the second scratch. -/
def mixAt (x2 x3 : Vec F S8x256x256 .f32) (x7 : Vec F S16x16x256 .f32) : Vec F S16x16x256 .f32 := fun y =>
  if h : (y 1).val < 8 then mixRe x2 x3 x7 ⟨(y 1).val, h⟩ (ix3 (y 0) 0 (y 2))
  else mixIm x2 x3 x7 ⟨(y 1).val - 8, by have : (y 1).val < 16 := (y 1).isLt; omega⟩ (ix3 (y 0) 0 (y 2))

/-- Its row `k` is mode `k`'s real part, its row `8 + k` the imaginary part: as the stores' pieces say it. -/
theorem re_piece (x2 x3 : Vec F S8x256x256 .f32) (x7 : Vec F S16x16x256 .f32) (k : Fin 8) (x : (rrow (kre k)).shape.Idx) :
    mixRe x2 x3 x7 k x = mixAt x2 x3 x7 ((rrow (kre k)).emb x) := by
  have hx : (x 1).val = 0 := by have : (x 1).val < 1 := (x 1).isLt; omega
  have h1 : (((rrow (kre k)).emb x) 1).val = k.val := by show k.val + 1 * (x 1).val = k.val; omega
  have h : (((rrow (kre k)).emb x) 1).val < 8 := by rw [h1]; exact k.isLt
  unfold mixAt
  rw [dif_pos h]
  have e : (⟨_, h⟩ : Fin 8) = k := Fin.ext h1
  rw [e]
  congr 1
  funext a
  match a with
  | ⟨0, _⟩ => exact Fin.ext (by show (x 0).val = 0 + 1 * (x 0).val; omega)
  | ⟨1, _⟩ => exact Fin.ext hx
  | ⟨2, _⟩ => exact Fin.ext (by show (x 2).val = 0 + 1 * (x 2).val; omega)
/-- What the store of an imaginary part writes. -/
theorem im_piece (x2 x3 : Vec F S8x256x256 .f32) (x7 : Vec F S16x16x256 .f32) (k : Fin 8) (x : (rrow (kim k)).shape.Idx) :
    mixIm x2 x3 x7 k x = mixAt x2 x3 x7 ((rrow (kim k)).emb x) := by
  have hx : (x 1).val = 0 := by have : (x 1).val < 1 := (x 1).isLt; omega
  have h1 : (((rrow (kim k)).emb x) 1).val = 8 + k.val := by show 8 + k.val + 1 * (x 1).val = 8 + k.val; omega
  have h : ¬(((rrow (kim k)).emb x) 1).val < 8 := by rw [h1]; omega
  unfold mixAt
  rw [dif_neg h]
  have e : (⟨(((rrow (kim k)).emb x) 1).val - 8, by have := k.isLt; omega⟩ : Fin 8) = k := Fin.ext (by show _ - 8 = _; rw [h1]; omega)
  rw [e]
  congr 1
  funext a
  match a with
  | ⟨0, _⟩ => exact Fin.ext (by show (x 0).val = 0 + 1 * (x 0).val; omega)
  | ⟨1, _⟩ => exact Fin.ext hx
  | ⟨2, _⟩ => exact Fin.ext (by show (x 2).val = 0 + 1 * (x 2).val; omega)

/-- A forward point: the first scratch's slab of the point takes the point's product, the rest of it stays. -/
theorem forward_body (c : Dev nD) (E : Set ℕ) (i : grid0.Coords) (hi : (i 0).val < 16)
    (arg1 : Memref sig .tc .vmem S1x4096x256 .f32) (harg1 : arg1.IsWhole) (arg2 : Memref sig .tc .vmem S8x256x256 .f32) (harg2 : arg2.IsWhole)
    (arg3 : Memref sig .tc .vmem S8x256x256 .f32) (harg3 : arg3.IsWhole) (arg4 : Memref sig .tc .vmem S32x4096 .f32) (harg4 : arg4.IsWhole)
    (arg5 : Memref sig .tc .vmem S4096x48 .f32) (harg5 : arg5.IsWhole) (arg6 : Memref sig .tc .vmem S1x4096x256 .f32) (harg6 : arg6.IsWhole)
    (arg7 : Memref sig .tc .vmem S16x16x256 .f32) (harg7 : arg7.IsWhole) (arg8 : Memref sig .tc .vmem S16x16x256 .f32) (harg8 : arg8.IsWhole)
    (x1 : Vec F S1x4096x256 .f32) (x4 : Vec F S32x4096 .f32) (x7 : Vec F S16x16x256 .f32) (K : PUnit → sProp 𝕄) :
    iprop(owns (c : Thread nD τ) arg1 fullShare x1 ∗ owns (c : Thread nD τ) arg4 fullShare x4 ∗ owns (c : Thread nD τ) arg7 fullShare x7
        ∗ (∀ x7', iprop(⌜∀ y : S16x16x256.Idx, x7' y = if (y 0).val = (i 0).val then k0_pay1 (View.ld x1 rq) (View.ld x4 rbf) (ix3 0 (y 1) (y 2)) else x7 y⌝
          ∗ owns (c : Thread nD τ) arg1 fullShare x1 ∗ owns (c : Thread nD τ) arg4 fullShare x4 ∗ owns (c : Thread nD τ) arg7 fullShare x7') -∗ K ⟨⟩))
      ⊢ wp frame (wpE (defs₀ (F := F)) Variants.none c none) E (cc0__fca_kernel i arg1 harg1 arg2 harg2 arg3 harg3 arg4 harg4 arg5 harg5 arg6 harg6 arg7 harg7 arg8 harg8) K := by
  have h1 : k0_cond1 i = 1#1 := (conds i).1.2 hi
  have h2 : ¬cond2 i = 1#1 := fun h => by have := (conds i).2.1.1 h; omega
  have h3 : ¬k0_cond3 i = 1#1 := fun h => by have := (conds i).2.2.1 h; omega
  simp only [cc0__fca_kernel_eq_skeleton]; unfold cc0__fca_kernel_skel
  unfold owns
  iintro ⟨⟨%f1, %hf1, H1⟩, ⟨%f4, %hf4, H4⟩, ⟨%f7, %hf7, H7⟩, Hk⟩
  subst hf1 hf4 hf7
  sl_exec
  have h2' : ¬forward_body.sl.v5 i = 1#1 := h2
  sl_exec
  sl_step
  iapply Hk
  isplitr
  swap
  · isplitl [H1]
    · iexists f1; isplitr; · ipureintro; rfl
      iexact H1
    isplitl [H4]
    · iexists f4; isplitr; · ipureintro; rfl
      iexact H4
    iexists _; isplitr
    swap; · iexact H7
    ipureintro; rfl
  ipureintro
  intro y
  by_cases hy : (y 0).val = (i 0).val
  · rw [if_pos hy]
    exact View.read_writes_cons_unit_of_mem _ _ _ _ _ y (ix3 0 (y 1) (y 2)) (k0_off1_eq i) (fun a => by
      match a with
      | ⟨0, _⟩ => exact hy
      | ⟨1, _⟩ => exact (Nat.zero_add _).symm
      | ⟨2, _⟩ => exact (Nat.zero_add _).symm)
  · rw [if_neg hy]
    exact View.read_writes_cons_unit_of_not_mem _ _ _ _ _ y (k0_off1_eq i) 0 (by
      show (y 0).val < (i 0).val ∨ (i 0).val + 1 ≤ (y 0).val
      omega)

/-- The mixing point: the second scratch takes the mixed modes. -/
theorem mix_body (c : Dev nD) (E : Set ℕ) (i : grid0.Coords) (hi : (i 0).val = 16)
    (arg1 : Memref sig .tc .vmem S1x4096x256 .f32) (harg1 : arg1.IsWhole) (arg2 : Memref sig .tc .vmem S8x256x256 .f32) (harg2 : arg2.IsWhole)
    (arg3 : Memref sig .tc .vmem S8x256x256 .f32) (harg3 : arg3.IsWhole) (arg4 : Memref sig .tc .vmem S32x4096 .f32) (harg4 : arg4.IsWhole)
    (arg5 : Memref sig .tc .vmem S4096x48 .f32) (harg5 : arg5.IsWhole) (arg6 : Memref sig .tc .vmem S1x4096x256 .f32) (harg6 : arg6.IsWhole)
    (arg7 : Memref sig .tc .vmem S16x16x256 .f32) (harg7 : arg7.IsWhole) (arg8 : Memref sig .tc .vmem S16x16x256 .f32) (harg8 : arg8.IsWhole)
    (x2 : Vec F S8x256x256 .f32) (x3 : Vec F S8x256x256 .f32) (x7 : Vec F S16x16x256 .f32) (K : PUnit → sProp 𝕄) :
    iprop(owns (c : Thread nD τ) arg2 fullShare x2 ∗ owns (c : Thread nD τ) arg3 fullShare x3 ∗ owns (c : Thread nD τ) arg7 fullShare x7
        ∗ (∃ x8, owns (c : Thread nD τ) arg8 fullShare x8)
        ∗ (iprop(owns (c : Thread nD τ) arg2 fullShare x2 ∗ owns (c : Thread nD τ) arg3 fullShare x3 ∗ owns (c : Thread nD τ) arg7 fullShare x7
          ∗ owns (c : Thread nD τ) arg8 fullShare (mixAt x2 x3 x7)) -∗ K ⟨⟩))
      ⊢ wp frame (wpE (defs₀ (F := F)) Variants.none c none) E (cc0__fca_kernel i arg1 harg1 arg2 harg2 arg3 harg3 arg4 harg4 arg5 harg5 arg6 harg6 arg7 harg7 arg8 harg8) K := by
  have h1 : ¬k0_cond1 i = 1#1 := fun h => by have := (conds i).1.1 h; omega
  have h2 : cond2 i = 1#1 := (conds i).2.1.2 hi
  have h3 : ¬k0_cond3 i = 1#1 := fun h => by have := (conds i).2.2.1 h; omega
  simp only [cc0__fca_kernel_eq_skeleton, k0_part1_eq_skeleton, k0_part2_eq_skeleton, k0_part3_eq_skeleton, k0_part4_eq_skeleton,
    k0_part5_eq_skeleton, k0_part6_eq_skeleton]
  unfold cc0__fca_kernel_skel
  unfold owns
  iintro ⟨⟨%f2, %hf2, H2⟩, ⟨%f3, %hf3, H3⟩, ⟨%f7, %hf7, H7⟩, ⟨%d8, %f8, -, H8⟩, Hk⟩
  subst hf2 hf3 hf7
  sl_exec
  have h2' : mix_body.sl.v5 i = 1#1 := h2
  sl_exec
  sl_step
  iapply Hk
  isplitl [H2]
  · iexists f2; isplitr; · ipureintro; rfl
    iexact H2
  isplitl [H3]
  · iexists f3; isplitr; · ipureintro; rfl
    iexact H3
  isplitl [H7]
  · iexists f7; isplitr; · ipureintro; rfl
    iexact H7
  iexists _; isplitr
  swap; · iexact H8
  ipureintro
  funext y
  refine View.read_writes_apply_of_pieces (Val := Elt F) arg8.view f8 (mixAt _ _ _) _ ?_ y (View.cover_of_tiled (s := S16x16x256) _ S16x1x256.size (by rfl) y)
  simp only [List.forall_mem_cons, List.not_mem_nil, false_imp_iff, implies_true, and_true]
  exact ⟨im_piece _ _ _ 7, re_piece _ _ _ 7, im_piece _ _ _ 6, re_piece _ _ _ 6, im_piece _ _ _ 5, re_piece _ _ _ 5, im_piece _ _ _ 4, re_piece _ _ _ 4,
    im_piece _ _ _ 3, re_piece _ _ _ 3, im_piece _ _ _ 2, re_piece _ _ _ 2, im_piece _ _ _ 1, re_piece _ _ _ 1, im_piece _ _ _ 0, re_piece _ _ _ 0⟩

/-- An inverse point: the output block takes the product of the inverse basis with the point's slab of the second scratch. -/
theorem inverse_body (c : Dev nD) (E : Set ℕ) (i : grid0.Coords) (hi : 16 < (i 0).val)
    (arg1 : Memref sig .tc .vmem S1x4096x256 .f32) (harg1 : arg1.IsWhole) (arg2 : Memref sig .tc .vmem S8x256x256 .f32) (harg2 : arg2.IsWhole)
    (arg3 : Memref sig .tc .vmem S8x256x256 .f32) (harg3 : arg3.IsWhole) (arg4 : Memref sig .tc .vmem S32x4096 .f32) (harg4 : arg4.IsWhole)
    (arg5 : Memref sig .tc .vmem S4096x48 .f32) (harg5 : arg5.IsWhole) (arg6 : Memref sig .tc .vmem S1x4096x256 .f32) (harg6 : arg6.IsWhole)
    (arg7 : Memref sig .tc .vmem S16x16x256 .f32) (harg7 : arg7.IsWhole) (arg8 : Memref sig .tc .vmem S16x16x256 .f32) (harg8 : arg8.IsWhole)
    (x5 : Vec F S4096x48 .f32) (x8 : Vec F S16x16x256 .f32) (K : PUnit → sProp 𝕄) :
    iprop(owns (c : Thread nD τ) arg5 fullShare x5 ∗ owns (c : Thread nD τ) arg8 fullShare x8
        ∗ (∃ x6, owns (c : Thread nD τ) arg6 fullShare x6)
        ∗ (iprop(owns (c : Thread nD τ) arg5 fullShare x5 ∗ owns (c : Thread nD τ) arg8 fullShare x8
          ∗ owns (c : Thread nD τ) arg6 fullShare (k0_pay2 (fun x => x8 (ix3 ⟨((i 0).val - 17) % 16, Nat.mod_lt _ (by decide)⟩ (x 1) (x 2))) (View.ld x5 rbi))) -∗ K ⟨⟩))
      ⊢ wp frame (wpE (defs₀ (F := F)) Variants.none c none) E (cc0__fca_kernel i arg1 harg1 arg2 harg2 arg3 harg3 arg4 harg4 arg5 harg5 arg6 harg6 arg7 harg7 arg8 harg8) K := by
  have h1 : ¬k0_cond1 i = 1#1 := fun h => by have := (conds i).1.1 h; omega
  have h2 : ¬cond2 i = 1#1 := fun h => by have := (conds i).2.1.1 h; omega
  have h3 : k0_cond3 i = 1#1 := (conds i).2.2.2 hi
  simp only [cc0__fca_kernel_eq_skeleton]; unfold cc0__fca_kernel_skel
  unfold owns
  iintro ⟨⟨%f5, %hf5, H5⟩, ⟨%f8, %hf8, H8⟩, ⟨%d6, %f6, -, H6⟩, Hk⟩
  subst hf5 hf8
  sl_exec
  have h2' : ¬inverse_body.sl.v5 i = 1#1 := h2
  sl_exec
  sl_step
  iapply Hk
  isplitl [H5]
  · iexists f5; isplitr; · ipureintro; rfl
    iexact H5
  isplitl [H8]
  · iexists f8; isplitr; · ipureintro; rfl
    iexact H8
  iexists _; isplitr
  swap; · iexact H6
  ipureintro
  refine (View.read_writes_full _ _ _ _ _).trans ?_
  have e : (View.readAt (Elt F) arg8.view (Rect.unit (s := S16x16x256) (k0_off2 i) S1x16x256.size (k0_off2_inb i h3)).toLoadRect f8 : Vec F S1x16x256 .f32)
      = fun x => View.read (Elt F) arg8.view f8 (ix3 ⟨((i 0).val - 17) % 16, Nat.mod_lt _ (by decide)⟩ (x 1) (x 2)) := by
    funext x
    refine congrArg (View.read (Elt F) arg8.view f8) (funext fun a => ?_)
    have hx : (x 0).val = 0 := by have : (x 0).val < 1 := (x 0).isLt; omega
    match a with
    | ⟨0, _⟩ => exact Fin.ext (by show k0_off2 i 0 + 1 * (x 0).val = ((i 0).val - 17) % 16; rw [(off2 i hi).1, hx]; rfl)
    | ⟨1, _⟩ => exact Fin.ext (by show k0_off2 i 1 + 1 * (x 1).val = (x 1).val; rw [(off2 i hi).2.1]; omega)
    | ⟨2, _⟩ => exact Fin.ext (by show k0_off2 i 2 + 1 * (x 2).val = (x 2).val; rw [(off2 i hi).2.2]; omega)
  exact congrArg (fun z => k0_pay2 z _) e

end Cert.Proof.KI

end
-- ==== Proof.KI.Run.lean ====
/-
  The run of the kernel's program: its one region on the 33 points, the two scratches carried from point to point
  under the invariant `PhiS`, and the host operations around it.
-/
module

public import proofs.«01_k».proof.Proof.KI.Body

@[expose] public section

noncomputable section

namespace Cert.Proof.KI

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's schedule -/

/-- The point's one coordinate is its number. -/
theorem coords_val : ∀ t : Fin grid0.N, ((grid0.coords t) 0).val = t.val := by decide +kernel

/-- The output window is idle, and is not written back, up to the mixing point; live after it. -/
theorem idle5 : ∀ t : Fin grid0.N, t.val ≤ 16 → (cfg0.idle 5 (grid0.coords t) = true ∧ (cfg0.win 5).flush t = false) := by
  decide +kernel
/-- The output window is in use at every step after the mixing. -/
theorem live5 : ∀ t : Fin grid0.N, 16 < t.val → cfg0.idle 5 (grid0.coords t) = false := by
  decide +kernel

/-- Point number `n`. -/
abbrev pt (n : ℕ) (h : n < 33) : Fin cfg0.N := ⟨n, h⟩

/-! ## What the scratches and the output window hold -/

/-- The product point `t` puts in its slab of the first scratch. -/
def fwd (c : Dev nD) (t : Fin cfg0.N) : Vec F S1x16x256 .f32 :=
  k0_pay1 (View.ld (iblk m c 0 t : Vec F S1x4096x256 .f32) rq) (View.ld (iblk m c 3 t : Vec F S32x4096 .f32) rbf)

/-- The first scratch once every forward point has run. -/
def xAt (c : Dev nD) : Vec F S16x16x256 .f32 := fun y =>
  fwd m c (pt (y 0).val (by have : (y 0).val < 16 := (y 0).isLt; omega)) (ix3 0 (y 1) (y 2))

/-- The second scratch after the mixing point. -/
def cAt (c : Dev nD) : Vec F S16x16x256 .f32 :=
  mixAt (iblk m c 1 (pt 16 (by decide))) (iblk m c 2 (pt 16 (by decide))) (xAt m c)

/-- The block an inverse point writes. -/
def inv (c : Dev nD) (t : Fin cfg0.N) : Vec F S1x4096x256 .f32 :=
  k0_pay2 (fun x => cAt m c (ix3 ⟨(t.val - 17) % 16, Nat.mod_lt _ (by decide)⟩ (x 1) (x 2))) (View.ld (iblk m c 4 t : Vec F S4096x48 .f32) rbi)

/-- Before point `n`: the first scratch's slabs below `n` are the products of their points, and past the mixing
    point the second scratch is the mixed modes. -/
def PhiS (c : Dev nD) (n : ℕ) : sProp 𝕄 :=
  iprop(∃ x7 x8, ⌜(∀ y : S16x16x256.Idx, (y 0).val < n → x7 y = xAt m c y) ∧ (17 ≤ n → x8 = cAt m c)⌝
    ∗ owns (c : Thread nD τ) (Memref.whole cc0_scratch0) fullShare x7 ∗ owns (c : Thread nD τ) (Memref.whole cc0_scratch1) fullShare x8
    ∗ ∃ r, prngReg c r)

/-! ## The proof data -/

/-- The proof data of the one pipeline: what each block holds, and the invariant of the two scratches. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => inv m c t
  Φ t := PhiS m c t.val
  q _ := fullShare
  owed _ := 0

/-- Every array enters with what the host left in it. -/
theorem A_eq (c : Dev nD) (w : Fin cfg0.W) : (dats m 0 c).A w = V m c (Pipeline.arrRef spec0 w) := by
  dsimp only [dats]

/-- Block 0 is left as it came in. -/
theorem after0 (c : Dev nD) (t : Fin cfg0.N) : (dats m 0 c).after 0 t = iblk m c 0 t := by dsimp only [dats]
/-- Block 1 is left as it came in. -/
theorem after1 (c : Dev nD) (t : Fin cfg0.N) : (dats m 0 c).after 1 t = iblk m c 1 t := by dsimp only [dats]
/-- Block 2 is left as it came in. -/
theorem after2 (c : Dev nD) (t : Fin cfg0.N) : (dats m 0 c).after 2 t = iblk m c 2 t := by dsimp only [dats]
/-- Block 3 is left as it came in. -/
theorem after3 (c : Dev nD) (t : Fin cfg0.N) : (dats m 0 c).after 3 t = iblk m c 3 t := by dsimp only [dats]
/-- Block 4 is left as it came in. -/
theorem after4 (c : Dev nD) (t : Fin cfg0.N) : (dats m 0 c).after 4 t = iblk m c 4 t := by dsimp only [dats]
/-- The output block is left with the inverse transform's product. -/
theorem after5 (c : Dev nD) (t : Fin cfg0.N) : (dats m 0 c).after 5 t = inv m c t := by dsimp only [dats]
/-- The invariant before a step. -/
theorem phi_castSucc (c : Dev nD) (t : Fin cfg0.N) : (dats m 0 c).Φ t.castSucc = PhiS m c t.val := by
  dsimp only [dats]; exact Pipeline.Dat.Φ_castSucc (fun n _ => PhiS m c n) t
/-- The invariant after a step. -/
theorem phi_succ (c : Dev nD) (t : Fin cfg0.N) : (dats m 0 c).Φ t.succ = PhiS m c (t.val + 1) := by
  dsimp only [dats]; rfl

/-- Block 0 comes in with its part of the array. -/
theorem before0 (c : Dev nD) (t : Fin cfg0.N) (d) : (dats m 0 c).before 0 t d = iblk m c 0 t :=
  before0_0_of m (dats m 0 c) (A_eq m c 0) (after0 m c) t d
/-- Block 1 comes in with its part of the array. -/
theorem before1 (c : Dev nD) (t : Fin cfg0.N) (d) : (dats m 0 c).before 1 t d = iblk m c 1 t :=
  before0_1_of m (dats m 0 c) (A_eq m c 1) (after1 m c) t d
/-- Block 2 comes in with its part of the array. -/
theorem before2 (c : Dev nD) (t : Fin cfg0.N) (d) : (dats m 0 c).before 2 t d = iblk m c 2 t :=
  before0_2_of m (dats m 0 c) (A_eq m c 2) (after2 m c) t d
/-- Block 3 comes in with its part of the array. -/
theorem before3 (c : Dev nD) (t : Fin cfg0.N) (d) : (dats m 0 c).before 3 t d = iblk m c 3 t :=
  before0_3_of m (dats m 0 c) (A_eq m c 3) (after3 m c) t d
/-- Block 4 comes in with its part of the array. -/
theorem before4 (c : Dev nD) (t : Fin cfg0.N) (d) : (dats m 0 c).before 4 t d = iblk m c 4 t :=
  before0_4_of m (dats m 0 c) (A_eq m c 4) (after4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the output window's buffer as it was found, at a point idle for it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- A forward point extends the invariant by its slab. -/
theorem sound_forward (c : Dev nD) (t : Fin cfg0.N) (ht : t.val < 16) :
    bodyPre m c t ⊢ wp frame (wpE (defs₀ (F := F)) Variants.none c none) Set.univ (bodyAt0 t) (fun _ => bodyPost m c t) := by
  unfold bodyPre bodyPost bodyAt0
  have hc : ((grid0.coords t) 0).val = t.val := coords_val t
  obtain ⟨hi, hf⟩ := idle5 t (by omega)
  rw [Dat.leavesExact_idle (dats m 0 c) 5 t hi hf]
  simp only [before0, before1, before2, before3, before4]
  rw [phi_castSucc, phi_succ, show (dats m 0 c).owesAt () t.succ = (dats m 0 c).owesAt () t.castSucc from rfl,
    after0, after1, after2, after3, after4]
  unfold PhiS
  iintro ⟨⟨%x7, %x8, %hx, H7, H8, Hr⟩, Ho, ⟨%d0, H0⟩, ⟨%d1, H1⟩, ⟨%d2, H2⟩, ⟨%d3, H3⟩, ⟨%d4, H4⟩, H5⟩
  iapply (forward_body c Set.univ (grid0.coords t) (by rw [hc]; exact ht) _ _ _ _ _ _ _ _ _ _ _ _ _ _ _ _ (iblk m c 0 t) (iblk m c 3 t) x7 _)
  isplitl [H0]; · iexact H0
  isplitl [H3]; · iexact H3
  isplitl [H7]; · iexact H7
  iintro %x7' ⟨%h7, H0, H3, H7⟩
  isplitl [H7 H8 Hr]
  · iexists x7', x8
    isplitr
    · ipureintro
      refine ⟨fun y hy => ?_, fun h => absurd h (by omega)⟩
      rw [h7 y]
      by_cases he : (y 0).val = t.val
      · rw [if_pos (he.trans hc.symm)]
        have e : pt (y 0).val (by have : (y 0).val < 16 := (y 0).isLt; omega) = t := Fin.ext he
        unfold xAt fwd
        rw [e]
        rfl
      · rw [if_neg (by rw [hc]; exact he)]
        exact hx.1 y (by omega)
    isplitl [H7]; · iexact H7
    isplitl [H8]; · iexact H8
    iexact Hr
  isplitl [Ho]; · iexact Ho
  isplitl [H0]; · iexact H0
  isplitl [H1]; · iexact H1
  isplitl [H2]; · iexact H2
  isplitl [H3]; · iexact H3
  isplitl [H4]; · iexact H4
  iexact H5

/-- The mixing point finds the first scratch whole and leaves the second whole. -/
theorem sound_mix (c : Dev nD) (t : Fin cfg0.N) (ht : t.val = 16) :
    bodyPre m c t ⊢ wp frame (wpE (defs₀ (F := F)) Variants.none c none) Set.univ (bodyAt0 t) (fun _ => bodyPost m c t) := by
  unfold bodyPre bodyPost bodyAt0
  have hc : ((grid0.coords t) 0).val = t.val := coords_val t
  obtain ⟨hi, hf⟩ := idle5 t (by omega)
  rw [Dat.leavesExact_idle (dats m 0 c) 5 t hi hf]
  simp only [before0, before1, before2, before3, before4]
  rw [phi_castSucc, phi_succ, show (dats m 0 c).owesAt () t.succ = (dats m 0 c).owesAt () t.castSucc from rfl,
    after0, after1, after2, after3, after4]
  unfold PhiS
  iintro ⟨⟨%x7, %x8, %hx, H7, H8, Hr⟩, Ho, ⟨%d0, H0⟩, ⟨%d1, H1⟩, ⟨%d2, H2⟩, ⟨%d3, H3⟩, ⟨%d4, H4⟩, H5⟩
  have e7 : x7 = xAt m c := funext fun y => hx.1 y (by have : (y 0).val < 16 := (y 0).isLt; omega)
  have et : t = pt 16 (by decide) := Fin.ext ht
  iapply (mix_body c Set.univ (grid0.coords t) (by rw [hc]; exact ht) _ _ _ _ _ _ _ _ _ _ _ _ _ _ _ _ (iblk m c 1 t) (iblk m c 2 t) x7 _)
  isplitl [H1]; · iexact H1
  isplitl [H2]; · iexact H2
  isplitl [H7]; · iexact H7
  isplitl [H8]; · iexists _; iexact H8
  iintro ⟨H1, H2, H7, H8⟩
  isplitl [H7 H8 Hr]
  · iexists x7, _
    isplitr
    swap
    · isplitl [H7]; · iexact H7
      isplitl [H8]; · iexact H8
      iexact Hr
    ipureintro
    refine ⟨fun y _ => by rw [e7], fun _ => ?_⟩
    unfold cAt
    rw [e7, et]
  isplitl [Ho]; · iexact Ho
  isplitl [H0]; · iexact H0
  isplitl [H1]; · iexact H1
  isplitl [H2]; · iexact H2
  isplitl [H3]; · iexact H3
  isplitl [H4]; · iexact H4
  iexact H5

/-- An inverse point writes its block and leaves the invariant as it was. -/
theorem sound_inverse (c : Dev nD) (t : Fin cfg0.N) (ht : 16 < t.val) :
    bodyPre m c t ⊢ wp frame (wpE (defs₀ (F := F)) Variants.none c none) Set.univ (bodyAt0 t) (fun _ => bodyPost m c t) := by
  unfold bodyPre bodyPost bodyAt0
  have hc : ((grid0.coords t) 0).val = t.val := coords_val t
  have hl : (dats m 0 c).leavesExact 5 t = owns (c : Thread nD τ) (st0_5 t) fullShare ((dats m 0 c).after 5 t) := by
    have hi : cfg0.idle 5 (cfg0.grid.coords t) = false := live5 t ht
    unfold Dat.leavesExact; rw [hi]
  rw [hl]
  simp only [before0, before1, before2, before3, before4]
  rw [phi_castSucc, phi_succ, show (dats m 0 c).owesAt () t.succ = (dats m 0 c).owesAt () t.castSucc from rfl,
    after0, after1, after2, after3, after4, after5]
  unfold PhiS
  iintro ⟨⟨%x7, %x8, %hx, H7, H8, Hr⟩, Ho, ⟨%d0, H0⟩, ⟨%d1, H1⟩, ⟨%d2, H2⟩, ⟨%d3, H3⟩, ⟨%d4, H4⟩, ⟨%d5, H5⟩⟩
  have e8 : x8 = cAt m c := hx.2 (by omega)
  have e : k0_pay2 (fun x => x8 (ix3 ⟨(((grid0.coords t) 0).val - 17) % 16, Nat.mod_lt _ (by decide)⟩ (x 1) (x 2))) (View.ld (iblk m c 4 t : Vec F S4096x48 .f32) rbi) = inv m c t := by
    unfold inv
    rw [e8]
    simp only [hc]
  rw [← e]
  iapply (inverse_body c Set.univ (grid0.coords t) (by rw [hc]; exact ht) _ _ _ _ _ _ _ _ _ _ _ _ _ _ _ _ (iblk m c 4 t) x8 _)
  isplitl [H4]; · iexact H4
  isplitl [H8]; · iexact H8
  isplitl [H5]; · iexists _; iexact H5
  iintro ⟨H4, H8, H5⟩
  isplitl [H7 H8 Hr]
  · iexists x7, x8
    isplitr
    · ipureintro
      exact ⟨fun y hy => hx.1 y (by have : (y 0).val < 16 := (y 0).isLt; omega), fun _ => e8⟩
    isplitl [H7]; · iexact H7
    isplitl [H8]; · iexact H8
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body at any point, by which of the three phases the point is in. -/
theorem sound_body (c : Dev nD) (t : Fin cfg0.N) :
    bodyPre m c t ⊢ wp frame (wpE (defs₀ (F := F)) Variants.none c none) Set.univ (bodyAt0 t) (fun _ => bodyPost m c t) := by
  rcases Nat.lt_trichotomy t.val 16 with h | h | h
  · exact sound_forward m c t h
  · exact sound_mix m c t h
  · exact sound_inverse m c t h

/-- The body table's row at point `t`'s slots is the body as `bodyAt0` spells it. -/
theorem row (t : Fin cfg0.N) : defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-- The invariant is entered from scratches at anything, -/
theorem phi_in (c : Dev nD) : Pipeline.ΦA spec0 c ⊢ (dats (F := F) m 0 c).Φ 0 := by
  rw [show (dats (F := F) m 0 c).Φ 0 = PhiS m c 0 from by dsimp only [dats]; rfl]
  unfold Pipeline.ΦA PhiS
  rw [scopedRest0_eq]
  simp only [owns_whole]
  iintro ⟨⟨⟨%f7, H7⟩, ⟨%f8, H8⟩⟩, Hr⟩
  iexists f7, f8
  isplitr
  · ipureintro; exact ⟨fun y hy => absurd hy (by omega), fun h => absurd h (by omega)⟩
  isplitl [H7]; · iexact H7
  isplitl [H8]; · iexact H8
  iexact Hr

/-- and left to scratches at anything. -/
theorem phi_out (c : Dev nD) : (dats (F := F) m 0 c).Φ (Fin.last cfg0.N) ⊢ Pipeline.ΦA spec0 c := by
  rw [show (dats (F := F) m 0 c).Φ (Fin.last cfg0.N) = PhiS m c 33 from by dsimp only [dats]; rfl]
  unfold Pipeline.ΦA PhiS
  rw [scopedRest0_eq]
  simp only [owns_whole]
  iintro ⟨%x7, %x8, -, H7, H8, Hr⟩
  isplitl [H7 H8]
  · isplitl [H7]
    · iexists _; iexact H7
    iexists _; iexact H8
  iexact Hr

/-! ## The run and the frame -/

set_option backward.isDefEq.respectTransparency.types false in
/-- The launch: every weakly fair execution ends, with the region's arrays at what the proof data computes, the other
    buffers as the host operations after the region leave them, and every semaphore at zero. -/
theorem run_quiescent : θ_run defs (onTc (τ := τ) (main (F := F))) (s₀ m ρ) (fun r => (Pipeline.FramePost cfgs (dats m) 0
    (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

/-- The same without the semaphores. -/
theorem run_arrays : θ_run defs (onTc (τ := τ) (main (F := F))) (s₀ m ρ) (Pipeline.FramePost cfgs (dats m) 0
    (Pipeline.afterTail₀ cfgs (dats m) 0 (V0 m) [hostOps1])) :=
  (θ_run defs _ _).mono (fun _ h => h.1) (run_quiescent m ρ)

/-- The frame claim's statement, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_arrays m ρ)) ((θ_run defs _ _).mono (fun _ h => h.2) (run_quiescent m ρ))

end Cert.Proof.KI

end
-- ==== Proof.KI.Value.lean ====
module

public import proofs.«01_k».proof.Proof.KI.Run
public import Idealize.ShloMosaic.Lib.Pipeline.ValueKit

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The region's output array: the block of batch `b` and head `h` is the one point `17 + 8 b + h` writes. -/
def outArr (c : Dev nD) : Vec F S2x4096x2048 .f32 := fun j =>
  inv m c (pt (17 + (j 0).val * 8 + (j 2).val / 256) (by
    have : (j 0).val < 2 := (j 0).isLt
    have : (j 2).val < 2048 := (j 2).isLt
    omega)) (ValueIdx.ix3 0 (j 1) ⟨(j 2).val % 256, Nat.mod_lt _ (by decide)⟩)

/-- The output's blocks cover its array. -/
theorem covers5 : (cfg0.win 5).Covers := by decide +kernel

/-- The block index of the output window past the mixing point. -/
theorem index5 : ∀ t : Fin grid0.N, 16 < t.val → win0_5.index t = ![(t.val - 17) / 8, 0, (t.val - 17) % 8] := by decide +kernel
/-- Only the steps after the mixing write a block back. -/
theorem flush5 : ∀ t : Fin grid0.N, (cfg0.win 5).flush t = true → 16 < t.val := by decide +kernel

/-- The region leaves `outArr` in its output array. -/
theorem arr_eq (c : Dev nD) : (dats m 0 c).arrAt 5 (cfgs 0).N = outArr m c := by
  refine (dats m 0 c).arrAt_eq_of_covers 5 _ covers5 fun t hf y => ?_
  have ht := flush5 t hf
  have hi := index5 t ht
  have hN : t.val < 33 := t.isLt
  have hy0 : (y 0).val < 1 := (y 0).isLt
  have hy2 : (y 2).val < 256 := (y 2).isLt
  blk_simp
  rw [after5]
  have h0 : ((win0_5.blk t).view.emb y 0).val = (t.val - 17) / 8 := by
    have := congrFun hi 0
    simp at this
    blk_simp [this]
  have h2 : ((win0_5.blk t).view.emb y 2).val = (t.val - 17) % 8 * 256 + (y 2).val := by
    have := congrFun hi 2
    simp at this
    blk_simp [this]
  have h1 : ((win0_5.blk t).view.emb y 1).val = (y 1).val := by
    have := congrFun hi 1
    simp at this
    blk_simp [this]
  have e1 : 17 + ((win0_5.blk t).view.emb y 0).val * 8 + ((win0_5.blk t).view.emb y 2).val / 256 = t.val := by
    rw [h0, h2]; omega
  have e2 : ((win0_5.blk t).view.emb y 2).val % 256 = (y 2).val := by
    rw [h2]; omega
  unfold outArr
  congr 1
  · congr 1
    exact Fin.ext e1.symm
  · funext d
    apply Fin.ext
    match d with
    | 0 => show (y 0).val = 0; omega
    | 1 => exact h1.symm
    | 2 => exact e2.symm

/-- Different windows have different arrays. -/
theorem arr_inj : Function.Injective (Pipeline.arrRef (cfgs 0).spec) := by decide

/-- The program's result: batch `b`, row `l`, head `h`, channel `e` of what the point `17 + 8 b + h` writes. -/
theorem tail_eq (c : Dev nD) : Pipeline.afterTail₀ cfgs (dats m) 0 (V0 m) [hostOps1] c main_v25
    = fun i => outArr m c (ValueIdx.ix3 (i 0) (i 1) ⟨(i 2).val * 256 + (i 3).val, by
        have : (i 2).val < 8 := (i 2).isLt
        have : (i 3).val < 256 := (i 3).isLt
        omega⟩) := by
  unfold Pipeline.afterTail₀
  simp only [hostOps1, List.flatten_cons, List.flatten_nil, List.append_nil]
  after_results_simp
  funext i
  have e : Pipeline.withArrays (cfgs 0).spec c (V0 m c) (fun w => (dats m 0 c).arrAt w (cfgs 0).N) (Proc.tc.devRef main_v24) = outArr m c := by
    rw [← arr_eq]
    exact Pipeline.withArrays_arr (cfgs 0).spec arr_inj c (V0 m c) (fun w => (dats m 0 c).arrAt w (cfgs 0).N) 5
  rw [e]
  generalize outArr m c = X
  pointwise
  rfl

end Cert.Proof.KI

end
-- ==== Proof.KI.Pay.lean ====
module

public import proofs.«01_k».proof.Proof.KI.Body
public import Idealize.ShloMosaic.Lib.Pointwise

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.Sem

/-- A row of the forward product, at `Ideal`. -/
theorem pay1_apply (v9 : Vec Ideal S1x4096x256 .f32) (v11 : Vec Ideal S32x4096 .f32) (r : Fin 16) (e : Fin 256) :
    k0_pay1 v9 v11 (ix3 0 r e)
      = (∑ l : Fin 4096, v11 (ix2 ⟨r.val, by omega⟩ l) * v9 (ix3 0 l e))
        + ∑ l : Fin 4096, v11 (ix2 ⟨16 + r.val, by omega⟩ l) * v9 (ix3 0 l e) := by
  pointwise [k0_pay1]

/-- A mixed real row, at `Ideal`. -/
theorem pay6_apply (v9 v11 : Vec Ideal S16x1x256 .f32) (v14 v17 : Vec Ideal S1x256x256 .f32) (p : Fin 16) (o : Fin 256) :
    k0_pay6 v9 v11 v14 v17 (ix3 p 0 o)
      = (∑ e : Fin 256, v9 (ix3 p 0 e) * v14 (ix3 0 e o)) - ∑ e : Fin 256, v11 (ix3 p 0 e) * v17 (ix3 0 e o) := by
  pointwise [k0_pay6, k0_pay4, k0_pay5, k0_pay3]

/-- A mixed imaginary row, at `Ideal`. -/
theorem pay7_apply (v9 v11 : Vec Ideal S16x1x256 .f32) (v14 v17 : Vec Ideal S1x256x256 .f32) (p : Fin 16) (o : Fin 256) :
    k0_pay7 v9 v11 v14 v17 (ix3 p 0 o)
      = (∑ e : Fin 256, v9 (ix3 p 0 e) * v17 (ix3 0 e o)) + ∑ e : Fin 256, v11 (ix3 p 0 e) * v14 (ix3 0 e o) := by
  pointwise [k0_pay7, k0_pay4, k0_pay5, k0_pay3]

/-- A sum over 48 indices is the sum over its three blocks of 16. -/
theorem sum48 (f : Fin 48 → EReal) :
    ∑ k : Fin 48, f k = (∑ k : Fin 16, f ⟨k.val, by omega⟩) + ((∑ k : Fin 16, f ⟨16 + k.val, by omega⟩) + ∑ k : Fin 16, f ⟨32 + k.val, by omega⟩) := by
  rw [Fin.sum_univ_add (a := 16) (b := 32) f, Fin.sum_univ_add (a := 16) (b := 16)]
  refine congrArg₂ _ rfl (congrArg₂ _ rfl (Finset.sum_congr rfl fun k _ => congrArg f (Fin.ext ?_)))
  simp only [Fin.val_natAdd]
  omega

/-- The inverse product, at `Ideal`: the product with the high part of the mixed rows twice, with their low part once. -/
theorem pay2_apply (v12 : Vec Ideal S1x16x256 .f32) (v18 : Vec Ideal S4096x48 .f32) (l : Fin 4096) (e : Fin 256) :
    k0_pay2 v12 v18 (ix3 0 l e)
      = (∑ k : Fin 16, v18 (ix2 l ⟨k.val, by omega⟩) * v12 (ix3 0 k e))
        + ((∑ k : Fin 16, v18 (ix2 l ⟨16 + k.val, by omega⟩) * v12 (ix3 0 k e))
          + ∑ k : Fin 16, v18 (ix2 l ⟨32 + k.val, by omega⟩) * (v12 (ix3 0 k e) - v12 (ix3 0 k e))) := by
  have h : k0_pay2 v12 v18 (ix3 0 l e)
      = ∑ k : Fin 48, v18 (ix2 l k) * (if h : k.val < 16 then v12 (ix3 0 ⟨k.val, h⟩ e)
          else if h : k.val - 16 < 16 then v12 (ix3 0 ⟨k.val - 16, h⟩ e)
          else v12 (ix3 0 ⟨k.val - 16 - 16, by omega⟩ e) - v12 (ix3 0 ⟨k.val - 16 - 16, by omega⟩ e)) := by
    have e : ∀ f g : Fin 48 → EReal, f = g → ∑ k, f k = ∑ k, g k := fun f g h => by rw [h]
    generalize hR : (∑ k : Fin 48, _ : EReal) = R
    pointwise [k0_pay2]
    exact hR
  rw [h, sum48]
  refine congrArg₂ _ (Finset.sum_congr rfl fun k _ => ?_) (congrArg₂ _ (Finset.sum_congr rfl fun k _ => ?_) (Finset.sum_congr rfl fun k _ => ?_))
  · rw [dif_pos k.isLt]
  · rw [dif_neg (by simp), dif_pos (by simp)]
    simp
  · rw [dif_neg (by simp; omega), dif_neg (by simp; omega)]
    have : (⟨32 + k.val - 16 - 16, by omega⟩ : Fin 16) = k := Fin.ext (by simp; omega)
    rw [this]

end Cert.Proof.KI

end
-- ==== Proof.KI.Blocks.lean ====
module

public import proofs.«01_k».proof.Proof.KI.Value
public import proofs.«01_k».proof.Proof.KI.Pay
public import Idealize.ShloMosaic.Lib.StableHlo.RunRead
public import proofs.«01_k».proof.Proof.Gen.ReferenceIdeal.Read

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The block of the signal that a forward step reads. -/
theorem index0 : ∀ t : Fin grid0.N, t.val < 16 → win0_0.index t = ![t.val / 8, 0, t.val % 8] := by decide +kernel
/-- Window 1 always holds its whole array. -/
theorem index1 : ∀ t : Fin grid0.N, win0_1.index t = ![0, 0, 0] := by decide +kernel
/-- Window 2 always holds its whole array. -/
theorem index2 : ∀ t : Fin grid0.N, win0_2.index t = ![0, 0, 0] := by decide +kernel
/-- Window 3 always holds its whole array. -/
theorem index3 : ∀ t : Fin grid0.N, win0_3.index t = ![0, 0] := by decide +kernel
/-- Window 4 always holds its whole array. -/
theorem index4 : ∀ t : Fin grid0.N, win0_4.index t = ![0, 0] := by decide +kernel

/-- The host lines before the region, one after the other. -/
theorem V0_eq (c : Dev nD) : V0 m c = StableHlo.after hostOps0_2 (StableHlo.after hostOps0_1 (StableHlo.after hostOps0 (fun b => m (c, b)))) := by
  unfold V0
  rw [show List.flatten [hostOps0, hostOps0_1, hostOps0_2] = (hostOps0 ++ hostOps0_1) ++ (hostOps0_2 : List (HloOp τ sig (Elt F))) from by
    simp only [List.flatten_cons, List.flatten_nil, List.append_nil, List.append_assoc]]
  rw [StableHlo.after_append, StableHlo.after_append]

/-- The angles, from the reduced integer phases. -/
def ang (p : IVec S8x4096 32) : FVec F S8x4096 .f32 :=
  mulf (sitofp .f32 p) (broadcastInDim S8x4096 ![] bcast_S_S8x4096 (constant S_ .f32 0x3AC90FDB#32))

/-- The forward table: the cosines over the negated sines. -/
def bf (p : IVec S8x4096 32) : FVec F S16x4096 .f32 :=
  concatenate S16x4096 0 [⟨S8x4096, Host.cos (ang p)⟩, ⟨S8x4096, Host.negf (Host.sin (ang p))⟩] concatenates_S8x4096_S8x4096_S16x4096_d0

/-- The forward basis as the last host lines leave it: the rounded part stacked on the rest. -/
theorem line_v18 (σ : Valuation τ sig (Elt F)) : (StableHlo.after hostOps0_2 σ (Proc.devRef .tc main_v18) : Vec F S32x4096 .f32)
    = concatenate S32x4096 0 [⟨S16x4096, extf .f32 (truncf .bf16 (bf (F := F) (σ (Proc.devRef .tc main_v7))) bitsLt_bf16_f32) bitsLt_bf16_f32⟩,
        ⟨S16x4096, subf (bf (F := F) (σ (Proc.devRef .tc main_v7))) (extf .f32 (truncf .bf16 (bf (F := F) (σ (Proc.devRef .tc main_v7))) bitsLt_bf16_f32) bitsLt_bf16_f32)⟩]
        concatenates_S16x4096_S16x4096_S32x4096_d0 := by
  after_results_simp
  rfl

/-- Three blocks of sixteen columns side by side. -/
def cat3 (a b d : FVec F S4096x16 .f32) : FVec F S4096x48 .f32 :=
  concatenate S4096x48 1 [⟨S4096x16, a⟩, ⟨S4096x16, b⟩, ⟨S4096x16, d⟩] concatenates_S4096x16_S4096x16_S4096x16_S4096x48_d1

/-- The inverse basis as the last host lines leave it: rounded part, rest, rounded part. -/
theorem line_v22 (σ : Valuation τ sig (Elt F)) : (StableHlo.after hostOps0_2 σ (Proc.devRef .tc main_v22) : Vec F S4096x48 .f32)
    = (fun b : FVec F S4096x16 .f32 => cat3 (extf .f32 (truncf .bf16 b bitsLt_bf16_f32) bitsLt_bf16_f32)
        (subf b (extf .f32 (truncf .bf16 b bitsLt_bf16_f32) bitsLt_bf16_f32))
        (extf .f32 (truncf .bf16 b bitsLt_bf16_f32) bitsLt_bf16_f32)) (σ (Proc.devRef .tc main_arg6)) := by
  after_results_simp
  dsimp only [Matrix.cons_val]
  change cat3 _ _ _ = cat3 _ _ _
  after_results_simp

/-- The integer phase, reduced modulo the length. -/
theorem line_v7 (σ : Valuation τ sig (Elt F)) (h6 : σ (Proc.devRef .tc main_v6) = Cert.ReferenceIdeal.Read.val_main_v6 (F := F))
    (hc : σ (Proc.devRef .tc main_c) = Cert.ReferenceIdeal.Read.val_main_c (F := F)) :
    (StableHlo.after hostOps0_1 σ (Proc.devRef .tc main_v7) : IVec S8x4096 32) = Cert.ReferenceIdeal.Read.val_main_v7 (F := F) := by
  after_reads_simp
  rw [h6, hc]
  rfl

/-- The integer phase, before its reduction. -/
theorem line_v6 (σ : Valuation τ sig (Elt F)) :
    StableHlo.after hostOps0 σ (Proc.devRef .tc main_v6) = Cert.ReferenceIdeal.Read.val_main_v6 (F := F) := by
  after_reads_simp
  rfl
/-- The signal's length, the modulus of the phase. -/
theorem line_c (σ : Valuation τ sig (Elt F)) :
    StableHlo.after hostOps0 σ (Proc.devRef .tc main_c) = Cert.ReferenceIdeal.Read.val_main_c (F := F) := by
  after_reads_simp
  rfl

/-- The reduced phase at the region's entry. -/
theorem V_v7 (c : Dev nD) : (StableHlo.after hostOps0_1 (StableHlo.after hostOps0 (fun b => m (c, b))) (Proc.devRef .tc main_v7) : IVec S8x4096 32)
    = Cert.ReferenceIdeal.Read.val_main_v7 (F := F) := line_v7 _ (line_v6 _) (line_c _)

/-- The signal with its two channel axes merged. -/
theorem V_v23 (c : Dev nD) : (V m c main_v23 : Vec F S2x4096x2048 .f32)
    = shapeCast S2x4096x2048 (m ((c.tc : Thread nD τ).loc main_arg0) : Vec F S2x4096x8x256 .f32) shapeCasts_S2x4096x8x256_S2x4096x2048 := by
  simp only [V, V0, hostOps0, hostOps0_1, hostOps0_2, List.flatten_cons, List.flatten_nil, List.append_nil, List.cons_append, List.nil_append]
  after_results_simp
  rfl

/-- The block of the signal a forward point reads: batch `t / 8`, head `t % 8`. -/
theorem blk0 (c : Dev nD) (t : Fin cfg0.N) (ht : t.val < 16) (l : Fin 4096) (e : Fin 256) :
    (iblk m c 0 t : Vec F S1x4096x256 .f32) (ix3 0 l e)
      = V m c main_v23 (ix3 ⟨t.val / 8, by omega⟩ l ⟨t.val % 8 * 256 + e.val, by omega⟩) := by
  have h0 : win0_0.index t 0 = t.val / 8 := congrFun (index0 t ht) 0
  have h1 : win0_0.index t 1 = 0 := congrFun (index0 t ht) 1
  have h2 : win0_0.index t 2 = t.val % 8 := congrFun (index0 t ht) 2
  blk_simp [iblk]
  congr 1
  blk_ext [h0, h1, h2]

/-- The block of the real weights is the whole array. -/
theorem blk1 (c : Dev nD) (t : Fin cfg0.N) : (iblk m c 1 t : Vec F S8x256x256 .f32) = m ((c.tc : Thread nD τ).loc main_arg4) := by
  funext y
  have h0 : win0_1.index t 0 = 0 := congrFun (index1 t) 0
  have h1 : win0_1.index t 1 = 0 := congrFun (index1 t) 1
  have h2 : win0_1.index t 2 = 0 := congrFun (index1 t) 2
  blk_simp [iblk]
  rw [V_main_arg4]
  congr 1
  blk_ext [h0, h1, h2]

/-- The block of the imaginary weights is the whole array. -/
theorem blk2 (c : Dev nD) (t : Fin cfg0.N) : (iblk m c 2 t : Vec F S8x256x256 .f32) = m ((c.tc : Thread nD τ).loc main_arg5) := by
  funext y
  have h0 : win0_2.index t 0 = 0 := congrFun (index2 t) 0
  have h1 : win0_2.index t 1 = 0 := congrFun (index2 t) 1
  have h2 : win0_2.index t 2 = 0 := congrFun (index2 t) 2
  blk_simp [iblk]
  rw [V_main_arg5]
  congr 1
  blk_ext [h0, h1, h2]

/-- The block of the forward basis is the whole table. -/
theorem blk3 (c : Dev nD) (t : Fin cfg0.N) : (iblk m c 3 t : Vec F S32x4096 .f32) = V m c main_v18 := by
  funext y
  have h0 : win0_3.index t 0 = 0 := congrFun (index3 t) 0
  have h1 : win0_3.index t 1 = 0 := congrFun (index3 t) 1
  blk_simp [iblk]
  congr 1
  blk_ext [h0, h1]

/-- The block of the inverse basis is the whole table. -/
theorem blk4 (c : Dev nD) (t : Fin cfg0.N) : (iblk m c 4 t : Vec F S4096x48 .f32) = V m c main_v22 := by
  funext y
  have h0 : win0_4.index t 0 = 0 := congrFun (index4 t) 0
  have h1 : win0_4.index t 1 = 0 := congrFun (index4 t) 1
  blk_simp [iblk]
  congr 1
  blk_ext [h0, h1]

end Cert.Proof.KI

end
-- ==== Proof.KI.Real.lean ====
module

public import Idealize.ShloMosaic.Lib.Pointwise

@[expose] public section

namespace Cert.Proof

open Idealize.ShloMosaic

/-- An extended real that is a real. -/
def IsR (x : EReal) : Prop := ∃ r : ℝ, x = (r : EReal)

/-- Reals are closed under sums, -/
theorem IsR.add {x y : EReal} (hx : IsR x) (hy : IsR y) : IsR (x + y) := by
  obtain ⟨a, rfl⟩ := hx; obtain ⟨b, rfl⟩ := hy; exact ⟨a + b, (EReal.coe_add a b).symm⟩
/-- under differences, -/
theorem IsR.sub {x y : EReal} (hx : IsR x) (hy : IsR y) : IsR (x - y) := by
  obtain ⟨a, rfl⟩ := hx; obtain ⟨b, rfl⟩ := hy; exact ⟨a - b, (EReal.coe_sub a b).symm⟩
/-- under products, -/
theorem IsR.mul {x y : EReal} (hx : IsR x) (hy : IsR y) : IsR (x * y) := by
  obtain ⟨a, rfl⟩ := hx; obtain ⟨b, rfl⟩ := hy; exact ⟨a * b, (EReal.coe_mul a b).symm⟩
/-- under negation, -/
theorem IsR.neg {x : EReal} (hx : IsR x) : IsR (-x) := by
  obtain ⟨a, rfl⟩ := hx; exact ⟨-a, (EReal.coe_neg a).symm⟩

/-- and under finite sums. -/
theorem IsR.sum {ι : Type} (s : Finset ι) {f : ι → EReal} (hf : ∀ i, IsR (f i)) : IsR (∑ i ∈ s, f i) := by
  choose g hg using hf
  classical
  induction s using Finset.induction_on with
  | empty => exact ⟨0, by simp⟩
  | insert i s hi ih => rw [Finset.sum_insert hi]; exact IsR.add ⟨g i, hg i⟩ ih

/-- A real less itself is zero. -/
theorem IsR.sub_self {x : EReal} (hx : IsR x) : x - x = 0 := by
  obtain ⟨a, rfl⟩ := hx; rw [← EReal.coe_sub, _root_.sub_self, EReal.coe_zero]

/-- The negation of a sum of reals is the sum of the negations. -/
theorem neg_sum {ι : Type} (s : Finset ι) {f : ι → EReal} (hf : ∀ i, IsR (f i)) : -(∑ i ∈ s, f i) = ∑ i ∈ s, -(f i) := by
  choose g hg using hf
  have h : f = fun i => (g i : EReal) := funext hg
  subst h
  classical
  induction s using Finset.induction_on with
  | empty => simp
  | insert i s hi ih =>
    rw [Finset.sum_insert hi, Finset.sum_insert hi, ← ih]
    obtain ⟨r, hr⟩ := IsR.sum s (f := fun i => (g i : EReal)) fun i => ⟨g i, rfl⟩
    rw [hr, ← EReal.coe_add, ← EReal.coe_neg, ← EReal.coe_neg, ← EReal.coe_neg, ← EReal.coe_add, neg_add]

/-- The cosine of a real is a real. -/
theorem IsR.cos {x : EReal} (hx : IsR x) : IsR (Ideal.cos x) := by
  obtain ⟨a, rfl⟩ := hx; exact ⟨Real.cos a, rfl⟩
/-- The sine of a real is a real. -/
theorem IsR.sin {x : EReal} (hx : IsR x) : IsR (Ideal.sin x) := by
  obtain ⟨a, rfl⟩ := hx; exact ⟨Real.sin a, rfl⟩

/-- An extended real whose absolute value compares below infinity is a real. -/
theorem isR_of_lt {x : EReal} (h : max x (-x) < ⊤) : IsR x := by
  induction x using EReal.rec with
  | bot => simp at h
  | top => simp at h
  | coe r => exact ⟨r, rfl⟩

end Cert.Proof
-- ==== Proof.RI.Value.lean ====
module

public import proofs.«01_k».proof.Proof.Gen.ReferenceIdeal.Read
public import Idealize.ShloMosaic.Lib.Pointwise

@[expose] public section

set_option maxRecDepth 16384

noncomputable section

namespace Cert.Proof.RI

open Cert.ReferenceIdeal Cert.ReferenceIdeal.Read
open Idealize.ShloMosaic

variable (q : Vec Ideal S2x4096x8x256 .f32) (wr wi : Vec Ideal S8x256x256 .f32) (bi : Vec Ideal S4096x16 .f32)

/-- The cosine table at mode `k`, position `l`. -/
abbrev C (k : Fin 8) (l : Fin 4096) : EReal := val_main_v11 (F := Ideal) (ix2 k l)
/-- The sine table at mode `k`, position `l`. -/
abbrev S (k : Fin 8) (l : Fin 4096) : EReal := val_main_v13 (F := Ideal) (ix2 k l)

/-- The real part of mode `k` of the signal's transform. -/
def xr (k : Fin 8) (b : Fin 2) (h : Fin 8) (e : Fin 256) : EReal := ∑ l : Fin 4096, C k l * q (ix4 b l h e)
/-- The imaginary part of mode `k` of the signal's transform. -/
def xi (k : Fin 8) (b : Fin 2) (h : Fin 8) (e : Fin 256) : EReal := -(∑ l : Fin 4096, S k l * q (ix4 b l h e))
/-- The real part of the mixed mode. -/
def yr (k : Fin 8) (b : Fin 2) (h : Fin 8) (o : Fin 256) : EReal :=
  (∑ e : Fin 256, xr q k b h e * wr (ix3 k e o)) - ∑ e : Fin 256, xi q k b h e * wi (ix3 k e o)
/-- The imaginary part of the mixed mode. -/
def yi (k : Fin 8) (b : Fin 2) (h : Fin 8) (o : Fin 256) : EReal :=
  (∑ e : Fin 256, xr q k b h e * wi (ix3 k e o)) + ∑ e : Fin 256, xi q k b h e * wr (ix3 k e o)
/-- The sixteen mixed rows: the real parts, then the imaginary parts. -/
def mixed (k : Fin 16) (b : Fin 2) (h : Fin 8) (o : Fin 256) : EReal :=
  if hk : k.val < 8 then yr q wr wi ⟨k.val, hk⟩ b h o else yi q wr wi ⟨k.val - 8, by omega⟩ b h o

/-- The reference's real parts of the modes. -/
theorem v12_eq (k : Fin 8) (b : Fin 2) (h : Fin 8) (e : Fin 256) : val_main_v12 (F := Ideal) q (ix4 k b h e) = xr q k b h e := by
  pointwise [val_main_v12, xr, C]
/-- The reference's imaginary parts of the modes. -/
theorem v15_eq (k : Fin 8) (b : Fin 2) (h : Fin 8) (e : Fin 256) : val_main_v15 (F := Ideal) q (ix4 k b h e) = xi q k b h e := by
  pointwise [val_main_v15, val_main_v14, xi, S]
/-- The real parts of the mixed modes. -/
theorem v18_eq (k : Fin 8) (b : Fin 2) (h : Fin 8) (o : Fin 256) :
    val_main_v18 (F := Ideal) q wr wi (ix4 k b h o) = yr q wr wi k b h o := by
  pointwise [val_main_v18, val_main_v16, val_main_v17, yr]
  simp only [v12_eq, v15_eq]
/-- The imaginary parts of the mixed modes. -/
theorem v21_eq (k : Fin 8) (b : Fin 2) (h : Fin 8) (o : Fin 256) :
    val_main_v21 (F := Ideal) q wr wi (ix4 k b h o) = yi q wr wi k b h o := by
  pointwise [val_main_v21, val_main_v19, val_main_v20, yi]
  simp only [v12_eq, v15_eq]
/-- The mixed modes stacked, real parts first. -/
theorem v22_eq (k : Fin 16) (b : Fin 2) (h : Fin 8) (o : Fin 256) :
    val_main_v22 (F := Ideal) q wr wi (ix4 k b h o) = mixed q wr wi k b h o := by
  pointwise [val_main_v22, mixed]
  simp only [v18_eq, v21_eq]

/-- The reference's result at an index: the sixteen mixed rows against the inverse basis. -/
theorem v24_eq (b : Fin 2) (l : Fin 4096) (h : Fin 8) (e : Fin 256) :
    val_main_v24 (F := Ideal) q wr wi bi (ix4 b l h e) = ∑ k : Fin 16, mixed q wr wi k b h e * bi (ix2 l k) := by
  pointwise [val_main_v24, val_main_v23]
  simp only [v22_eq]

end Cert.Proof.RI

end
-- ==== Proof.KI.Ideal.lean ====
module

public import proofs.«01_k».proof.Proof.KI.Blocks
public import proofs.«01_k».proof.Proof.KI.Real
public import proofs.«01_k».proof.Proof.RI.Value

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.Sem
open Cert.Proof.RI (C S xr xi yr yi mixed)

variable (m : (ℓ : Loc nD τ sig) → Buf (Elt Ideal) ℓ) (c : Dev nD)

/-- The four arguments the program reads, on device `c`. -/
abbrev q : Vec Ideal S2x4096x8x256 .f32 := m ((c.tc : Thread nD τ).loc main_arg0)
/-- The weights' real parts. -/
abbrev wr : Vec Ideal S8x256x256 .f32 := m ((c.tc : Thread nD τ).loc main_arg4)
/-- The weights' imaginary parts. -/
abbrev wi : Vec Ideal S8x256x256 .f32 := m ((c.tc : Thread nD τ).loc main_arg5)
/-- The inverse transform's basis. -/
abbrev bi : Vec Ideal S4096x16 .f32 := m ((c.tc : Thread nD τ).loc main_arg6)

/-- Every element the program reads is a real. -/
structure Reals : Prop where
  q : ∀ i, IsR (q m c i)
  wr : ∀ i, IsR (wr m c i)
  wi : ∀ i, IsR (wi m c i)
  bi : ∀ i, IsR (bi m c i)

/-- The angle step is a real, -/
theorem isR_step : IsR (Ideal.ofBits .f32 0x3AC90FDB#32) := by
  unfold Ideal.ofBits Ideal.ieee
  dsimp only
  rw [if_neg (by decide), if_neg (by decide)]
  exact ⟨_, rfl⟩

/-- so the table angles are, -/
theorem isR_ang (k : Fin 8) (l : Fin 4096) : IsR (ReferenceIdeal.Read.val_main_v10 (F := Ideal) (ix2 k l)) := by
  show IsR ((((ReferenceIdeal.Read.val_main_v7 (F := Ideal) (ix2 k l)).toInt : ℝ) : EReal) * Ideal.ofBits .f32 0x3AC90FDB#32)
  exact IsR.mul ⟨_, rfl⟩ isR_step
/-- so the cosines are, -/
theorem isR_C (k : Fin 8) (l : Fin 4096) : IsR (C k l) := (isR_ang k l).cos
/-- and the sines. -/
theorem isR_S (k : Fin 8) (l : Fin 4096) : IsR (S k l) := (isR_ang k l).sin

/-- The forward and the inverse table as the region reads them. -/
def tf : Vec Ideal S32x4096 .f32 := V m c main_v18
/-- The inverse table that the region reads. -/
def ti : Vec Ideal S4096x48 .f32 := V m c main_v22

/-- The forward table at an index: a cosine, or a negated sine. -/
def bfAt (r : Fin 16) (l : Fin 4096) : EReal :=
  if h : r.val < 8 then C ⟨r.val, h⟩ l else -(S ⟨r.val - 8, by omega⟩ l)

/-- Every entry of the forward basis is a real. -/
theorem isR_bfAt (r : Fin 16) (l : Fin 4096) : IsR (bfAt r l) := by
  unfold bfAt; split
  · exact isR_C _ _
  · exact (isR_S _ _).neg

/-- The host's forward basis, entry by entry. -/
theorem bf_eq (r : Fin 16) (l : Fin 4096) : bf (F := Ideal) (ReferenceIdeal.Read.val_main_v7 (F := Ideal)) (ix2 r l) = bfAt r l := by
  have hc : Host.cos (ang (F := Ideal) (ReferenceIdeal.Read.val_main_v7 (F := Ideal))) = ReferenceIdeal.Read.val_main_v11 (F := Ideal) := rfl
  have hs : Host.sin (ang (F := Ideal) (ReferenceIdeal.Read.val_main_v7 (F := Ideal))) = ReferenceIdeal.Read.val_main_v13 (F := Ideal) := rfl
  unfold bf
  rw [hc, hs]
  pointwise [bfAt, C, S]

/-- The forward table the region reads: the table, over the rounding errors, which are none. -/
theorem v18_hi (r : Fin 16) (l : Fin 4096) : tf m c (ix2 ⟨r.val, by omega⟩ l) = bfAt r l := by
  unfold tf V
  rw [V0_eq, line_v18, V_v7]
  generalize hb : bf (F := Ideal) (ReferenceIdeal.Read.val_main_v7 (F := Ideal)) = B
  pointwise
  rw [← hb, bf_eq]
/-- Over the reals the second half of the forward table is zero. -/
theorem v18_lo (r : Fin 16) (l : Fin 4096) : tf m c (ix2 ⟨16 + r.val, by omega⟩ l) = 0 := by
  unfold tf V
  rw [V0_eq, line_v18, V_v7]
  generalize hb : bf (F := Ideal) (ReferenceIdeal.Read.val_main_v7 (F := Ideal)) = B
  pointwise
  rw [← hb, bf_eq]
  exact (isR_bfAt r l).sub_self

/-- The basis is an argument that no host line writes. -/
theorem V_bi : V0 m c (Proc.devRef .tc main_arg6) = bi m c := V_main_arg6 m c

/-- The inverse basis the region reads: the basis, its rounding errors, which are none, and the basis again. -/
theorem v22_eq (l : Fin 4096) (k : Fin 48) : ti m c (ix2 l k)
    = if h : k.val < 16 then bi m c (ix2 l ⟨k.val, h⟩)
      else if h : k.val - 16 < 16 then bi m c (ix2 l ⟨k.val - 16, h⟩) - bi m c (ix2 l ⟨k.val - 16, h⟩)
      else bi m c (ix2 l ⟨k.val - 16 - 16, by omega⟩) := by
  have h6 : StableHlo.after hostOps0_1 (StableHlo.after hostOps0 (fun b => m (c, b))) (Proc.devRef .tc main_arg6) = bi m c := by
    after_reads_simp
  unfold ti V
  rw [V0_eq, line_v22, h6]
  pointwise [cat3]

/-- The merged signal, entry by entry. -/
theorem v23_eq (b : Fin 2) (l : Fin 4096) (h : Fin 8) (e : Fin 256) :
    (V m c main_v23 : Vec Ideal S2x4096x2048 .f32) (ix3 b l ⟨h.val * 256 + e.val, by omega⟩) = q m c (ix4 b l h e) := by
  rw [V_v23]
  pointwise

/-- The first scratch, past the forward points, holds the transform of batch `p / 8`, head `p % 8`. -/
theorem xAt_eq (p : Fin 16) (r : Fin 16) (e : Fin 256) :
    (xAt m c : Vec Ideal S16x16x256 .f32) (ix3 p r e) = ∑ l : Fin 4096, bfAt r l * q m c (ix4 ⟨p.val / 8, by omega⟩ l ⟨p.val % 8, by omega⟩ e) := by
  have h : (xAt m c : Vec Ideal S16x16x256 .f32) (ix3 p r e) = fwd m c (pt p.val (by omega)) (ix3 0 r e) := rfl
  rw [h, fwd, pay1_apply]
  have hq : ∀ l, View.ld (iblk m c 0 (pt p.val (by omega)) : Vec Ideal S1x4096x256 .f32) rq (ix3 0 l e)
      = q m c (ix4 ⟨p.val / 8, by omega⟩ l ⟨p.val % 8, by omega⟩ e) := fun l => by
    rw [← v23_eq, ← blk0 m c (pt p.val (by omega)) p.isLt]
    pointwise
  have hb : ∀ (a : Fin 32) l, View.ld (iblk m c 3 (pt p.val (by omega)) : Vec Ideal S32x4096 .f32) rbf (ix2 a l)
      = tf m c (ix2 a l) := fun a l => by
    unfold tf
    rw [← blk3 m c (pt p.val (by omega))]
    pointwise
  simp only [hq, hb, v18_hi, v18_lo, zero_mul, Finset.sum_const_zero, add_zero]

/-- The real part of a mode that the forward phase leaves in the scratch. -/
theorem xAt_re (p : Fin 16) (k : Fin 8) (e : Fin 256) :
    (xAt m c : Vec Ideal S16x16x256 .f32) (ix3 p (kre k) e) = xr (q m c) k ⟨p.val / 8, by omega⟩ ⟨p.val % 8, by omega⟩ e := by
  rw [xAt_eq]
  refine Finset.sum_congr rfl fun l _ => ?_
  rw [bfAt, dif_pos k.isLt]

/-- The imaginary part of a mode that the forward phase leaves in the scratch. -/
theorem xAt_im (hR : Reals m c) (p : Fin 16) (k : Fin 8) (e : Fin 256) :
    (xAt m c : Vec Ideal S16x16x256 .f32) (ix3 p (kim k) e) = xi (q m c) k ⟨p.val / 8, by omega⟩ ⟨p.val % 8, by omega⟩ e := by
  rw [xAt_eq, xi, neg_sum _ fun l => (isR_S k l).mul (hR.q _)]
  refine Finset.sum_congr rfl fun l _ => ?_
  have hk : ¬ (kim k).val < 8 := by simp
  rw [bfAt, dif_neg hk, EReal.neg_mul]
  congr 3
  exact Fin.ext (by simp)

/-- Reading one row of the scratch. -/
theorem ld_row (r p : Fin 16) (e : Fin 256) : View.ld (xAt m c : Vec Ideal S16x16x256 .f32) (rrow r) (ix3 p 0 e) = xAt m c (ix3 p r e) := by
  pointwise
/-- Reading one mode's weights. -/
theorem ld_mode (w : Vec Ideal S8x256x256 .f32) (k : Fin 8) (e o : Fin 256) : View.ld w (rmode k) (ix3 0 e o) = w (ix3 k e o) := by
  pointwise

/-- The mixed real part is the reference's. -/
theorem mixRe_eq (hR : Reals m c) (p : Fin 16) (k : Fin 8) (o : Fin 256) :
    mixRe (wr m c) (wi m c) (xAt m c) k (ix3 p 0 o) = yr (q m c) (wr m c) (wi m c) k ⟨p.val / 8, by omega⟩ ⟨p.val % 8, by omega⟩ o := by
  refine (pay6_apply _ _ _ _ p o).trans ?_
  simp only [ld_row, xAt_re, xAt_im m c hR]
  exact congrArg₂ (fun a b : EReal => a - b) (Finset.sum_congr rfl fun e _ => congrArg _ (ld_mode _ k e o)) (Finset.sum_congr rfl fun e _ => congrArg _ (ld_mode _ k e o))
/-- The mixed imaginary part is the reference's. -/
theorem mixIm_eq (hR : Reals m c) (p : Fin 16) (k : Fin 8) (o : Fin 256) :
    mixIm (wr m c) (wi m c) (xAt m c) k (ix3 p 0 o) = yi (q m c) (wr m c) (wi m c) k ⟨p.val / 8, by omega⟩ ⟨p.val % 8, by omega⟩ o := by
  refine (pay7_apply _ _ _ _ p o).trans ?_
  simp only [ld_row, xAt_re, xAt_im m c hR]
  exact congrArg₂ (fun a b : EReal => a + b) (Finset.sum_congr rfl fun e _ => congrArg _ (ld_mode _ k e o)) (Finset.sum_congr rfl fun e _ => congrArg _ (ld_mode _ k e o))

/-- The second scratch, past the mixing point, holds the mixed modes. -/
theorem cAt_eq (hR : Reals m c) (p : Fin 16) (k : Fin 16) (o : Fin 256) :
    (cAt m c : Vec Ideal S16x16x256 .f32) (ix3 p k o)
      = mixed (q m c) (wr m c) (wi m c) k ⟨p.val / 8, by omega⟩ ⟨p.val % 8, by omega⟩ o := by
  unfold cAt mixed
  rw [blk1, blk2]
  by_cases hk : k.val < 8
  · rw [dif_pos hk]
    exact (dif_pos hk).trans (mixRe_eq m c hR p ⟨k.val, hk⟩ o)
  · rw [dif_neg hk]
    exact (dif_neg hk).trans (mixIm_eq m c hR p ⟨k.val - 8, by omega⟩ o)

/-- The mixed modes are reals. -/
theorem isR_mixed (hR : Reals m c) (k : Fin 16) (b : Fin 2) (h : Fin 8) (o : Fin 256) : IsR (mixed (q m c) (wr m c) (wi m c) k b h o) := by
  have hxr : ∀ k e, IsR (xr (q m c) k b h e) := fun k e => IsR.sum _ fun l => (isR_C k l).mul (hR.q _)
  have hxi : ∀ k e, IsR (xi (q m c) k b h e) := fun k e => (IsR.sum _ fun l => (isR_S k l).mul (hR.q _)).neg
  unfold mixed
  split
  · exact (IsR.sum _ fun e => (hxr _ e).mul (hR.wr _)).sub (IsR.sum _ fun e => (hxi _ e).mul (hR.wi _))
  · exact (IsR.sum _ fun e => (hxr _ e).mul (hR.wi _)).add (IsR.sum _ fun e => (hxi _ e).mul (hR.wr _))

/-- The slab of mixed modes an inverse point reads. -/
def slab (t : Fin cfg0.N) : Vec Ideal S1x16x256 .f32 := fun x =>
  cAt m c (ValueIdx.ix3 ⟨(t.val - 17) % 16, Nat.mod_lt _ (by decide)⟩ (x 1) (x 2))

/-- What an inverse point writes: the mixed modes of its batch and head against the inverse basis. -/
theorem inv_eq (hR : Reals m c) (t : Fin cfg0.N) (l : Fin 4096) (e : Fin 256) :
    (inv m c t : Vec Ideal S1x4096x256 .f32) (ix3 0 l e)
      = ∑ k : Fin 16, mixed (q m c) (wr m c) (wi m c) k ⟨(t.val - 17) % 16 / 8, by omega⟩ ⟨(t.val - 17) % 16 % 8, by omega⟩ e * bi m c (ix2 l k) := by
  have hb : ∀ k : Fin 48, View.ld (iblk m c 4 t : Vec Ideal S4096x48 .f32) rbi (ix2 l k) = ti m c (ix2 l k) := fun k => by
    unfold ti
    rw [← blk4 m c t]
    pointwise
  have h0 : ∀ k : Fin 16, ti m c (ix2 l ⟨k.val, by omega⟩) = bi m c (ix2 l k) := fun k => by
    rw [v22_eq, dif_pos k.isLt]
  have h1 : ∀ k : Fin 16, ti m c (ix2 l ⟨16 + k.val, by omega⟩) = 0 := fun k => by
    rw [v22_eq, dif_neg (by simp), dif_pos (by simp)]
    exact (hR.bi _).sub_self
  have hi : inv m c t = k0_pay2 (slab m c t) (View.ld (iblk m c 4 t : Vec Ideal S4096x48 .f32) rbi) := rfl
  rw [hi, pay2_apply]
  have hc : ∀ k : Fin 16, slab m c t (ix3 0 k e)
      = mixed (q m c) (wr m c) (wi m c) k ⟨(t.val - 17) % 16 / 8, by omega⟩ ⟨(t.val - 17) % 16 % 8, by omega⟩ e := fun k =>
    cAt_eq m c hR ⟨(t.val - 17) % 16, Nat.mod_lt _ (by decide)⟩ k e
  simp only [hb, h0, h1, hc, zero_mul, Finset.sum_const_zero, zero_add, (isR_mixed m c hR _ _ _ _).sub_self, mul_zero, add_zero]
  exact Finset.sum_congr rfl fun k _ => mul_comm _ _

/-- The kernel's result at an index is the reference's. -/
theorem out_eq (hR : Reals m c) (b : Fin 2) (l : Fin 4096) (h : Fin 8) (e : Fin 256) :
    (Pipeline.afterTail₀ cfgs (dats m) 0 (V0 m) [hostOps1] c main_v25 : Vec Ideal S2x4096x8x256 .f32) (ix4 b l h e)
      = ReferenceIdeal.Read.val_main_v24 (F := Ideal) (q m c) (wr m c) (wi m c) (bi m c) (ix4 b l h e) := by
  rw [tail_eq, RI.v24_eq]
  have hn : 17 + b.val * 8 + (h.val * 256 + e.val) / 256 < 33 := by omega
  have he : (⟨(h.val * 256 + e.val) % 256, Nat.mod_lt _ (by decide)⟩ : Fin 256) = e := Fin.ext (by show (h.val * 256 + e.val) % 256 = e.val; omega)
  have : outArr m c (ValueIdx.ix3 b l ⟨h.val * 256 + e.val, by omega⟩)
      = inv m c (pt (17 + b.val * 8 + (h.val * 256 + e.val) / 256) hn) (ix3 0 l ⟨(h.val * 256 + e.val) % 256, Nat.mod_lt _ (by decide)⟩) := rfl
  refine Eq.trans this ?_
  rw [inv_eq m c hR, he]
  have e1 : (⟨((pt (17 + b.val * 8 + (h.val * 256 + e.val) / 256) hn).val - 17) % 16 / 8, by omega⟩ : Fin 2) = b := Fin.ext (by show _ = b.val; dsimp only; omega)
  have e2 : (⟨((pt (17 + b.val * 8 + (h.val * 256 + e.val) / 256) hn).val - 17) % 16 % 8, by omega⟩ : Fin 8) = h := Fin.ext (by show _ = h.val; dsimp only; omega)
  rw [e1, e2]

end Cert.Proof.KI

end
-- ==== Proof.KI.Pre.lean ====
module

public import proofs.«01_k».proof.Defs
public import proofs.«01_k».proof.Proof.KI.Ideal
public import proofs.«01_k».proof.Proof.Gen.Pre_finite_inputs

@[expose] public section

noncomputable section

namespace Cert.Proof.KI

open Cert.KernelIdeal Cert.KernelIdeal.Gen
open Idealize.ShloMosaic Idealize.ShloMosaic.TcCoe
open Idealize.SL Idealize.SL.Sem

/-- An element whose comparison with infinity says "below" is a real. -/
theorem isR_of_cmp {x : EReal} (h : FloatOps.cmpf (F := Ideal) (φ := .f32) .olt (FloatOps.hostAbsf (F := Ideal) (φ := .f32) x) (FloatOps.ofBits .f32 0x7F800000#32) = 1#1) : IsR x := by
  have ht : Ideal.ofBits .f32 0x7F800000#32 = ⊤ := by
    unfold Ideal.ofBits Ideal.ieee
    dsimp only
    rw [if_pos (by decide), if_pos (by decide), if_neg (by decide)]
  apply isR_of_lt
  simp only [Ideal.ofBits_def, ht] at h
  change BitVec.ofBool (decide (max x (-x) < ⊤)) = 1#1 at h
  by_contra hn
  rw [decide_eq_false hn] at h
  exact absurd h (by decide)

/-- The precondition says that every element read is a real. -/
theorem reals_of_pre (m : (ℓ : Loc nD τ sig) → Buf (Elt Ideal) ℓ)
    (h : Cert.Pre_KernelIdeal_finite_inputs (hPre_finite_inputs := Cert.Pre_finite_inputs.Gen.facts) m) (c : Dev nD) : Reals m c where
  q i := isR_of_cmp (congrFun (h c).1 i)
  wr i := isR_of_cmp (congrFun (h c).2.1 i)
  wi i := isR_of_cmp (congrFun (h c).2.2.1 i)
  bi i := isR_of_cmp (congrFun (h c).2.2.2 i)

/-- The result buffer as a whole is the reference's result. -/
theorem result_eq (m : (ℓ : Loc nD τ sig) → Buf (Elt Ideal) ℓ) (c : Dev nD) (hR : Reals m c) :
    Pipeline.afterTail₀ cfgs (dats m) 0 (V0 m) [hostOps1] c main_v25
      = Cert.ReferenceIdeal.Read.val_main_v24 (F := Ideal) (q m c) (wr m c) (wi m c) (bi m c) := by
  funext i
  have hi : i = ix4 (i 0) (i 1) (i 2) (i 3) := by
    funext k
    fin_cases k <;> rfl
  rw [hi]
  exact out_eq m c hR (i 0) (i 1) (i 2) (i 3)

/-- A run of the kernel leaves the reference's result in its result buffer. -/
theorem result_of_post (m : (ℓ : Loc nD τ sig) → Buf (Elt Ideal) ℓ) (c : Dev nD) (hR : Reals m c)
    (r : PUnit × MemSt nD τ sig (Elt Ideal)) (h : Pipeline.FramePost cfgs (dats m) 0
      (Pipeline.afterTail₀ cfgs (dats m) 0 (V0 m) [hostOps1]) r) :
    r.2.mem ((c.tc : Thread nD τ).loc main_v25)
      = Cert.ReferenceIdeal.Read.val_main_v24 (F := Ideal) (q m c) (wr m c) (wi m c) (bi m c) :=
  ((h c).2 main_v25 (Pipeline.mem_restRefs_of main_v25 (by decide) (by decide))).trans (result_eq m c hR)

end Cert.Proof.KI

end
-- ==== Proof.CI.Body.lean ====
/-
  The kernel body of `KernelAtIdeal`, one triple per phase of the grid: a forward point (one product with the transform's table, stored as
  one slab of the first scratch), the mixing point (eight complex products, stored as the sixteen rows of the second scratch) and an
  inverse point (the product of the inverse basis with one slab of the second scratch, stored as the output block).
-/
module

public import proofs.«01_k».proof.Proof.Gen.KernelAtIdeal.Frame
public import proofs.«01_k».proof.Proof.Gen.KernelAtIdeal.Skeleton
public import Idealize.ShloMosaic.Lib.Claim
public import Idealize.ShloMosaic.Lib.WritesUnit
public import Idealize.ShloMosaic.Lib.VecWindow
public import Idealize.ShloMosaic.Lib.ValueIdxCore

@[expose] public section

set_option maxRecDepth 16384

noncomputable section

namespace Cert.Proof.CI

open Cert.KernelAtIdeal Cert.KernelAtIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

/-- The word the middle branch tests: the point is number 16. -/
abbrev cond2 (i : grid0.Coords) : BitVec 1 :=
  let v3 : BitVec 1 := Scalar.cmpi .eq (BitVec.ofNat 32 (i 0).val) 16#32
  let v4 : BitVec 32 := Scalar.extui v3
  Scalar.cmpi .ne v4 0#32

/-- The three branches, decided over the 33 points. -/
theorem conds : ∀ i : grid0.Coords, (k0_cond1 i = 1#1 ↔ (i 0).val < 16) ∧ (cond2 i = 1#1 ↔ (i 0).val = 16)
    ∧ (k0_cond3 i = 1#1 ↔ 16 < (i 0).val) := by decide +kernel

/-- The slab an inverse point reads, decided over the 33 points. -/
theorem off2 : ∀ i : grid0.Coords, 16 < (i 0).val → k0_off2 i 0 = ((i 0).val - 17) % 16 ∧ k0_off2 i 1 = 0 ∧ k0_off2 i 2 = 0 := by
  decide +kernel

/-! ## The accesses -/

/-- The whole block of the signal. -/
abbrev rq : Rect S1x4096x256 := Rect.unit (s := S1x4096x256) ![0, 0, 0] S1x4096x256.size inb_S1x4096x256_S1x4096x256_0_0_0
/-- The whole forward basis. -/
abbrev rbf : Rect S32x4096 := Rect.unit (s := S32x4096) ![0, 0] S32x4096.size inb_S32x4096_S32x4096_0_0
/-- The whole inverse basis. -/
abbrev rbi : Rect S4096x48 := Rect.unit (s := S4096x48) ![0, 0] S4096x48.size inb_S4096x48_S4096x48_0_0

/-- Row `k` of a scratch: all sixteen slabs at their row `k`. -/
abbrev rrow (k : Fin 16) : Rect S16x16x256 := Rect.unit (s := S16x16x256) ![0, k.val, 0] S16x1x256.size (by
  have := k.isLt
  intro a; match a with
  | ⟨0, _⟩ => show 0 + 16 ≤ 16; omega
  | ⟨1, _⟩ => show k.val + 1 ≤ 16; omega
  | ⟨2, _⟩ => show 0 + 256 ≤ 256; omega)
/-- Mode `k`'s weight matrix. -/
abbrev rmode (k : Fin 8) : Rect S8x256x256 := Rect.unit (s := S8x256x256) ![k.val, 0, 0] S1x256x256.size (by
  have := k.isLt
  intro a; match a with
  | ⟨0, _⟩ => show k.val + 1 ≤ 8; omega
  | ⟨1, _⟩ => show 0 + 256 ≤ 256; omega
  | ⟨2, _⟩ => show 0 + 256 ≤ 256; omega)
/-- Row `k` and row `8 + k` of the sixteen: the real and the imaginary part of mode `k`. -/
abbrev kre (k : Fin 8) : Fin 16 := ⟨k.val, by have := k.isLt; omega⟩
/-- The row of a mode's imaginary part. -/
abbrev kim (k : Fin 8) : Fin 16 := ⟨8 + k.val, by have := k.isLt; omega⟩

/-- Mode `k` mixed: the real part and the imaginary part, a row each of the sixteen pairs. -/
def mixRe (x2 x3 : Vec F S8x256x256 .f32) (x7 : Vec F S16x16x256 .f32) (k : Fin 8) : Vec F S16x1x256 .f32 :=
  k0_pay6 (View.ld x7 (rrow (kre k))) (View.ld x7 (rrow (kim k))) (View.ld x2 (rmode k)) (View.ld x3 (rmode k))
/-- The imaginary part of a mixed mode. -/
def mixIm (x2 x3 : Vec F S8x256x256 .f32) (x7 : Vec F S16x16x256 .f32) (k : Fin 8) : Vec F S16x1x256 .f32 :=
  k0_pay7 (View.ld x7 (rrow (kre k))) (View.ld x7 (rrow (kim k))) (View.ld x2 (rmode k)) (View.ld x3 (rmode k))

/-- What the mixing point leaves in the second scratch. -/
def mixAt (x2 x3 : Vec F S8x256x256 .f32) (x7 : Vec F S16x16x256 .f32) : Vec F S16x16x256 .f32 := fun y =>
  if h : (y 1).val < 8 then mixRe x2 x3 x7 ⟨(y 1).val, h⟩ (ix3 (y 0) 0 (y 2))
  else mixIm x2 x3 x7 ⟨(y 1).val - 8, by have : (y 1).val < 16 := (y 1).isLt; omega⟩ (ix3 (y 0) 0 (y 2))

/-- Its row `k` is mode `k`'s real part, its row `8 + k` the imaginary part: as the stores' pieces say it. -/
theorem re_piece (x2 x3 : Vec F S8x256x256 .f32) (x7 : Vec F S16x16x256 .f32) (k : Fin 8) (x : (rrow (kre k)).shape.Idx) :
    mixRe x2 x3 x7 k x = mixAt x2 x3 x7 ((rrow (kre k)).emb x) := by
  have hx : (x 1).val = 0 := by have : (x 1).val < 1 := (x 1).isLt; omega
  have h1 : (((rrow (kre k)).emb x) 1).val = k.val := by show k.val + 1 * (x 1).val = k.val; omega
  have h : (((rrow (kre k)).emb x) 1).val < 8 := by rw [h1]; exact k.isLt
  unfold mixAt
  rw [dif_pos h]
  have e : (⟨_, h⟩ : Fin 8) = k := Fin.ext h1
  rw [e]
  congr 1
  funext a
  match a with
  | ⟨0, _⟩ => exact Fin.ext (by show (x 0).val = 0 + 1 * (x 0).val; omega)
  | ⟨1, _⟩ => exact Fin.ext hx
  | ⟨2, _⟩ => exact Fin.ext (by show (x 2).val = 0 + 1 * (x 2).val; omega)
/-- What the store of an imaginary part writes. -/
theorem im_piece (x2 x3 : Vec F S8x256x256 .f32) (x7 : Vec F S16x16x256 .f32) (k : Fin 8) (x : (rrow (kim k)).shape.Idx) :
    mixIm x2 x3 x7 k x = mixAt x2 x3 x7 ((rrow (kim k)).emb x) := by
  have hx : (x 1).val = 0 := by have : (x 1).val < 1 := (x 1).isLt; omega
  have h1 : (((rrow (kim k)).emb x) 1).val = 8 + k.val := by show 8 + k.val + 1 * (x 1).val = 8 + k.val; omega
  have h : ¬(((rrow (kim k)).emb x) 1).val < 8 := by rw [h1]; omega
  unfold mixAt
  rw [dif_neg h]
  have e : (⟨(((rrow (kim k)).emb x) 1).val - 8, by have := k.isLt; omega⟩ : Fin 8) = k := Fin.ext (by show _ - 8 = _; rw [h1]; omega)
  rw [e]
  congr 1
  funext a
  match a with
  | ⟨0, _⟩ => exact Fin.ext (by show (x 0).val = 0 + 1 * (x 0).val; omega)
  | ⟨1, _⟩ => exact Fin.ext hx
  | ⟨2, _⟩ => exact Fin.ext (by show (x 2).val = 0 + 1 * (x 2).val; omega)

/-- A forward point: the first scratch's slab of the point takes the point's product, the rest of it stays. -/
theorem forward_body (c : Dev nD) (E : Set ℕ) (i : grid0.Coords) (hi : (i 0).val < 16)
    (arg1 : Memref sig .tc .vmem S1x4096x256 .f32) (harg1 : arg1.IsWhole) (arg2 : Memref sig .tc .vmem S8x256x256 .f32) (harg2 : arg2.IsWhole)
    (arg3 : Memref sig .tc .vmem S8x256x256 .f32) (harg3 : arg3.IsWhole) (arg4 : Memref sig .tc .vmem S32x4096 .f32) (harg4 : arg4.IsWhole)
    (arg5 : Memref sig .tc .vmem S4096x48 .f32) (harg5 : arg5.IsWhole) (arg6 : Memref sig .tc .vmem S1x4096x256 .f32) (harg6 : arg6.IsWhole)
    (arg7 : Memref sig .tc .vmem S16x16x256 .f32) (harg7 : arg7.IsWhole) (arg8 : Memref sig .tc .vmem S16x16x256 .f32) (harg8 : arg8.IsWhole)
    (x1 : Vec F S1x4096x256 .f32) (x4 : Vec F S32x4096 .f32) (x7 : Vec F S16x16x256 .f32) (K : PUnit → sProp 𝕄) :
    iprop(owns (c : Thread nD τ) arg1 fullShare x1 ∗ owns (c : Thread nD τ) arg4 fullShare x4 ∗ owns (c : Thread nD τ) arg7 fullShare x7
        ∗ (∀ x7', iprop(⌜∀ y : S16x16x256.Idx, x7' y = if (y 0).val = (i 0).val then k0_pay1 (View.ld x1 rq) (View.ld x4 rbf) (ix3 0 (y 1) (y 2)) else x7 y⌝
          ∗ owns (c : Thread nD τ) arg1 fullShare x1 ∗ owns (c : Thread nD τ) arg4 fullShare x4 ∗ owns (c : Thread nD τ) arg7 fullShare x7') -∗ K ⟨⟩))
      ⊢ wp frame (wpE (defs₀ (F := F)) Variants.none c none) E (cc0__fca_kernel i arg1 harg1 arg2 harg2 arg3 harg3 arg4 harg4 arg5 harg5 arg6 harg6 arg7 harg7 arg8 harg8) K := by
  have h1 : k0_cond1 i = 1#1 := (conds i).1.2 hi
  have h2 : ¬cond2 i = 1#1 := fun h => by have := (conds i).2.1.1 h; omega
  have h3 : ¬k0_cond3 i = 1#1 := fun h => by have := (conds i).2.2.1 h; omega
  simp only [cc0__fca_kernel_eq_skeleton]; unfold cc0__fca_kernel_skel
  unfold owns
  iintro ⟨⟨%f1, %hf1, H1⟩, ⟨%f4, %hf4, H4⟩, ⟨%f7, %hf7, H7⟩, Hk⟩
  subst hf1 hf4 hf7
  sl_exec
  have h2' : ¬forward_body.sl.v5 i = 1#1 := h2
  sl_exec
  sl_step
  iapply Hk
  isplitr
  swap
  · isplitl [H1]
    · iexists f1; isplitr; · ipureintro; rfl
      iexact H1
    isplitl [H4]
    · iexists f4; isplitr; · ipureintro; rfl
      iexact H4
    iexists _; isplitr
    swap; · iexact H7
    ipureintro; rfl
  ipureintro
  intro y
  by_cases hy : (y 0).val = (i 0).val
  · rw [if_pos hy]
    exact View.read_writes_cons_unit_of_mem _ _ _ _ _ y (ix3 0 (y 1) (y 2)) (k0_off1_eq i) (fun a => by
      match a with
      | ⟨0, _⟩ => exact hy
      | ⟨1, _⟩ => exact (Nat.zero_add _).symm
      | ⟨2, _⟩ => exact (Nat.zero_add _).symm)
  · rw [if_neg hy]
    exact View.read_writes_cons_unit_of_not_mem _ _ _ _ _ y (k0_off1_eq i) 0 (by
      show (y 0).val < (i 0).val ∨ (i 0).val + 1 ≤ (y 0).val
      omega)

/-- The mixing point: the second scratch takes the mixed modes. -/
theorem mix_body (c : Dev nD) (E : Set ℕ) (i : grid0.Coords) (hi : (i 0).val = 16)
    (arg1 : Memref sig .tc .vmem S1x4096x256 .f32) (harg1 : arg1.IsWhole) (arg2 : Memref sig .tc .vmem S8x256x256 .f32) (harg2 : arg2.IsWhole)
    (arg3 : Memref sig .tc .vmem S8x256x256 .f32) (harg3 : arg3.IsWhole) (arg4 : Memref sig .tc .vmem S32x4096 .f32) (harg4 : arg4.IsWhole)
    (arg5 : Memref sig .tc .vmem S4096x48 .f32) (harg5 : arg5.IsWhole) (arg6 : Memref sig .tc .vmem S1x4096x256 .f32) (harg6 : arg6.IsWhole)
    (arg7 : Memref sig .tc .vmem S16x16x256 .f32) (harg7 : arg7.IsWhole) (arg8 : Memref sig .tc .vmem S16x16x256 .f32) (harg8 : arg8.IsWhole)
    (x2 : Vec F S8x256x256 .f32) (x3 : Vec F S8x256x256 .f32) (x7 : Vec F S16x16x256 .f32) (K : PUnit → sProp 𝕄) :
    iprop(owns (c : Thread nD τ) arg2 fullShare x2 ∗ owns (c : Thread nD τ) arg3 fullShare x3 ∗ owns (c : Thread nD τ) arg7 fullShare x7
        ∗ (∃ x8, owns (c : Thread nD τ) arg8 fullShare x8)
        ∗ (iprop(owns (c : Thread nD τ) arg2 fullShare x2 ∗ owns (c : Thread nD τ) arg3 fullShare x3 ∗ owns (c : Thread nD τ) arg7 fullShare x7
          ∗ owns (c : Thread nD τ) arg8 fullShare (mixAt x2 x3 x7)) -∗ K ⟨⟩))
      ⊢ wp frame (wpE (defs₀ (F := F)) Variants.none c none) E (cc0__fca_kernel i arg1 harg1 arg2 harg2 arg3 harg3 arg4 harg4 arg5 harg5 arg6 harg6 arg7 harg7 arg8 harg8) K := by
  have h1 : ¬k0_cond1 i = 1#1 := fun h => by have := (conds i).1.1 h; omega
  have h2 : cond2 i = 1#1 := (conds i).2.1.2 hi
  have h3 : ¬k0_cond3 i = 1#1 := fun h => by have := (conds i).2.2.1 h; omega
  simp only [cc0__fca_kernel_eq_skeleton, k0_part1_eq_skeleton, k0_part2_eq_skeleton, k0_part3_eq_skeleton, k0_part4_eq_skeleton,
    k0_part5_eq_skeleton, k0_part6_eq_skeleton]
  unfold cc0__fca_kernel_skel
  unfold owns
  iintro ⟨⟨%f2, %hf2, H2⟩, ⟨%f3, %hf3, H3⟩, ⟨%f7, %hf7, H7⟩, ⟨%d8, %f8, -, H8⟩, Hk⟩
  subst hf2 hf3 hf7
  sl_exec
  have h2' : mix_body.sl.v5 i = 1#1 := h2
  sl_exec
  sl_step
  iapply Hk
  isplitl [H2]
  · iexists f2; isplitr; · ipureintro; rfl
    iexact H2
  isplitl [H3]
  · iexists f3; isplitr; · ipureintro; rfl
    iexact H3
  isplitl [H7]
  · iexists f7; isplitr; · ipureintro; rfl
    iexact H7
  iexists _; isplitr
  swap; · iexact H8
  ipureintro
  funext y
  refine View.read_writes_apply_of_pieces (Val := Elt F) arg8.view f8 (mixAt _ _ _) _ ?_ y (View.cover_of_tiled (s := S16x16x256) _ S16x1x256.size (by rfl) y)
  simp only [List.forall_mem_cons, List.not_mem_nil, false_imp_iff, implies_true, and_true]
  exact ⟨im_piece _ _ _ 7, re_piece _ _ _ 7, im_piece _ _ _ 6, re_piece _ _ _ 6, im_piece _ _ _ 5, re_piece _ _ _ 5, im_piece _ _ _ 4, re_piece _ _ _ 4,
    im_piece _ _ _ 3, re_piece _ _ _ 3, im_piece _ _ _ 2, re_piece _ _ _ 2, im_piece _ _ _ 1, re_piece _ _ _ 1, im_piece _ _ _ 0, re_piece _ _ _ 0⟩

/-- An inverse point: the output block takes the product of the inverse basis with the point's slab of the second scratch. -/
theorem inverse_body (c : Dev nD) (E : Set ℕ) (i : grid0.Coords) (hi : 16 < (i 0).val)
    (arg1 : Memref sig .tc .vmem S1x4096x256 .f32) (harg1 : arg1.IsWhole) (arg2 : Memref sig .tc .vmem S8x256x256 .f32) (harg2 : arg2.IsWhole)
    (arg3 : Memref sig .tc .vmem S8x256x256 .f32) (harg3 : arg3.IsWhole) (arg4 : Memref sig .tc .vmem S32x4096 .f32) (harg4 : arg4.IsWhole)
    (arg5 : Memref sig .tc .vmem S4096x48 .f32) (harg5 : arg5.IsWhole) (arg6 : Memref sig .tc .vmem S1x4096x256 .f32) (harg6 : arg6.IsWhole)
    (arg7 : Memref sig .tc .vmem S16x16x256 .f32) (harg7 : arg7.IsWhole) (arg8 : Memref sig .tc .vmem S16x16x256 .f32) (harg8 : arg8.IsWhole)
    (x5 : Vec F S4096x48 .f32) (x8 : Vec F S16x16x256 .f32) (K : PUnit → sProp 𝕄) :
    iprop(owns (c : Thread nD τ) arg5 fullShare x5 ∗ owns (c : Thread nD τ) arg8 fullShare x8
        ∗ (∃ x6, owns (c : Thread nD τ) arg6 fullShare x6)
        ∗ (iprop(owns (c : Thread nD τ) arg5 fullShare x5 ∗ owns (c : Thread nD τ) arg8 fullShare x8
          ∗ owns (c : Thread nD τ) arg6 fullShare (k0_pay2 (fun x => x8 (ix3 ⟨((i 0).val - 17) % 16, Nat.mod_lt _ (by decide)⟩ (x 1) (x 2))) (View.ld x5 rbi))) -∗ K ⟨⟩))
      ⊢ wp frame (wpE (defs₀ (F := F)) Variants.none c none) E (cc0__fca_kernel i arg1 harg1 arg2 harg2 arg3 harg3 arg4 harg4 arg5 harg5 arg6 harg6 arg7 harg7 arg8 harg8) K := by
  have h1 : ¬k0_cond1 i = 1#1 := fun h => by have := (conds i).1.1 h; omega
  have h2 : ¬cond2 i = 1#1 := fun h => by have := (conds i).2.1.1 h; omega
  have h3 : k0_cond3 i = 1#1 := (conds i).2.2.2 hi
  simp only [cc0__fca_kernel_eq_skeleton]; unfold cc0__fca_kernel_skel
  unfold owns
  iintro ⟨⟨%f5, %hf5, H5⟩, ⟨%f8, %hf8, H8⟩, ⟨%d6, %f6, -, H6⟩, Hk⟩
  subst hf5 hf8
  sl_exec
  have h2' : ¬inverse_body.sl.v5 i = 1#1 := h2
  sl_exec
  sl_step
  iapply Hk
  isplitl [H5]
  · iexists f5; isplitr; · ipureintro; rfl
    iexact H5
  isplitl [H8]
  · iexists f8; isplitr; · ipureintro; rfl
    iexact H8
  iexists _; isplitr
  swap; · iexact H6
  ipureintro
  refine (View.read_writes_full _ _ _ _ _).trans ?_
  have e : (View.readAt (Elt F) arg8.view (Rect.unit (s := S16x16x256) (k0_off2 i) S1x16x256.size (k0_off2_inb i h3)).toLoadRect f8 : Vec F S1x16x256 .f32)
      = fun x => View.read (Elt F) arg8.view f8 (ix3 ⟨((i 0).val - 17) % 16, Nat.mod_lt _ (by decide)⟩ (x 1) (x 2)) := by
    funext x
    refine congrArg (View.read (Elt F) arg8.view f8) (funext fun a => ?_)
    have hx : (x 0).val = 0 := by have : (x 0).val < 1 := (x 0).isLt; omega
    match a with
    | ⟨0, _⟩ => exact Fin.ext (by show k0_off2 i 0 + 1 * (x 0).val = ((i 0).val - 17) % 16; rw [(off2 i hi).1, hx]; rfl)
    | ⟨1, _⟩ => exact Fin.ext (by show k0_off2 i 1 + 1 * (x 1).val = (x 1).val; rw [(off2 i hi).2.1]; omega)
    | ⟨2, _⟩ => exact Fin.ext (by show k0_off2 i 2 + 1 * (x 2).val = (x 2).val; rw [(off2 i hi).2.2]; omega)
  exact congrArg (fun z => k0_pay2 z _) e

end Cert.Proof.CI

end
-- ==== Proof.CI.Run.lean ====
/-
  The run of the kernel's program: its one region on the 33 points, the two scratches carried from point to point
  under the invariant `PhiS`, and the host operations around it.
-/
module

public import proofs.«01_k».proof.Proof.CI.Body

@[expose] public section

noncomputable section

namespace Cert.Proof.CI

open Cert.KernelAtIdeal Cert.KernelAtIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's schedule -/

/-- The point's one coordinate is its number. -/
theorem coords_val : ∀ t : Fin grid0.N, ((grid0.coords t) 0).val = t.val := by decide +kernel

/-- The output window is idle, and is not written back, up to the mixing point; live after it. -/
theorem idle5 : ∀ t : Fin grid0.N, t.val ≤ 16 → (cfg0.idle 5 (grid0.coords t) = true ∧ (cfg0.win 5).flush t = false) := by
  decide +kernel
/-- The output window is in use at every step after the mixing. -/
theorem live5 : ∀ t : Fin grid0.N, 16 < t.val → cfg0.idle 5 (grid0.coords t) = false := by
  decide +kernel

/-- Point number `n`. -/
abbrev pt (n : ℕ) (h : n < 33) : Fin cfg0.N := ⟨n, h⟩

/-! ## What the scratches and the output window hold -/

/-- The product point `t` puts in its slab of the first scratch. -/
def fwd (c : Dev nD) (t : Fin cfg0.N) : Vec F S1x16x256 .f32 :=
  k0_pay1 (View.ld (iblk m c 0 t : Vec F S1x4096x256 .f32) rq) (View.ld (iblk m c 3 t : Vec F S32x4096 .f32) rbf)

/-- The first scratch once every forward point has run. -/
def xAt (c : Dev nD) : Vec F S16x16x256 .f32 := fun y =>
  fwd m c (pt (y 0).val (by have : (y 0).val < 16 := (y 0).isLt; omega)) (ix3 0 (y 1) (y 2))

/-- The second scratch after the mixing point. -/
def cAt (c : Dev nD) : Vec F S16x16x256 .f32 :=
  mixAt (iblk m c 1 (pt 16 (by decide))) (iblk m c 2 (pt 16 (by decide))) (xAt m c)

/-- The block an inverse point writes. -/
def inv (c : Dev nD) (t : Fin cfg0.N) : Vec F S1x4096x256 .f32 :=
  k0_pay2 (fun x => cAt m c (ix3 ⟨(t.val - 17) % 16, Nat.mod_lt _ (by decide)⟩ (x 1) (x 2))) (View.ld (iblk m c 4 t : Vec F S4096x48 .f32) rbi)

/-- Before point `n`: the first scratch's slabs below `n` are the products of their points, and past the mixing
    point the second scratch is the mixed modes. -/
def PhiS (c : Dev nD) (n : ℕ) : sProp 𝕄 :=
  iprop(∃ x7 x8, ⌜(∀ y : S16x16x256.Idx, (y 0).val < n → x7 y = xAt m c y) ∧ (17 ≤ n → x8 = cAt m c)⌝
    ∗ owns (c : Thread nD τ) (Memref.whole cc0_scratch0) fullShare x7 ∗ owns (c : Thread nD τ) (Memref.whole cc0_scratch1) fullShare x8
    ∗ ∃ r, prngReg c r)

/-! ## The proof data -/

/-- The proof data of the one pipeline: what each block holds, and the invariant of the two scratches. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => inv m c t
  Φ t := PhiS m c t.val
  q _ := fullShare
  owed _ := 0

/-- Every array enters with what the host left in it. -/
theorem A_eq (c : Dev nD) (w : Fin cfg0.W) : (dats m 0 c).A w = V m c (Pipeline.arrRef spec0 w) := by
  dsimp only [dats]

/-- Block 0 is left as it came in. -/
theorem after0 (c : Dev nD) (t : Fin cfg0.N) : (dats m 0 c).after 0 t = iblk m c 0 t := by dsimp only [dats]
/-- Block 1 is left as it came in. -/
theorem after1 (c : Dev nD) (t : Fin cfg0.N) : (dats m 0 c).after 1 t = iblk m c 1 t := by dsimp only [dats]
/-- Block 2 is left as it came in. -/
theorem after2 (c : Dev nD) (t : Fin cfg0.N) : (dats m 0 c).after 2 t = iblk m c 2 t := by dsimp only [dats]
/-- Block 3 is left as it came in. -/
theorem after3 (c : Dev nD) (t : Fin cfg0.N) : (dats m 0 c).after 3 t = iblk m c 3 t := by dsimp only [dats]
/-- Block 4 is left as it came in. -/
theorem after4 (c : Dev nD) (t : Fin cfg0.N) : (dats m 0 c).after 4 t = iblk m c 4 t := by dsimp only [dats]
/-- The output block is left with the inverse transform's product. -/
theorem after5 (c : Dev nD) (t : Fin cfg0.N) : (dats m 0 c).after 5 t = inv m c t := by dsimp only [dats]
/-- The invariant before a step. -/
theorem phi_castSucc (c : Dev nD) (t : Fin cfg0.N) : (dats m 0 c).Φ t.castSucc = PhiS m c t.val := by
  dsimp only [dats]; exact Pipeline.Dat.Φ_castSucc (fun n _ => PhiS m c n) t
/-- The invariant after a step. -/
theorem phi_succ (c : Dev nD) (t : Fin cfg0.N) : (dats m 0 c).Φ t.succ = PhiS m c (t.val + 1) := by
  dsimp only [dats]; rfl

/-- Block 0 comes in with its part of the array. -/
theorem before0 (c : Dev nD) (t : Fin cfg0.N) (d) : (dats m 0 c).before 0 t d = iblk m c 0 t :=
  before0_0_of m (dats m 0 c) (A_eq m c 0) (after0 m c) t d
/-- Block 1 comes in with its part of the array. -/
theorem before1 (c : Dev nD) (t : Fin cfg0.N) (d) : (dats m 0 c).before 1 t d = iblk m c 1 t :=
  before0_1_of m (dats m 0 c) (A_eq m c 1) (after1 m c) t d
/-- Block 2 comes in with its part of the array. -/
theorem before2 (c : Dev nD) (t : Fin cfg0.N) (d) : (dats m 0 c).before 2 t d = iblk m c 2 t :=
  before0_2_of m (dats m 0 c) (A_eq m c 2) (after2 m c) t d
/-- Block 3 comes in with its part of the array. -/
theorem before3 (c : Dev nD) (t : Fin cfg0.N) (d) : (dats m 0 c).before 3 t d = iblk m c 3 t :=
  before0_3_of m (dats m 0 c) (A_eq m c 3) (after3 m c) t d
/-- Block 4 comes in with its part of the array. -/
theorem before4 (c : Dev nD) (t : Fin cfg0.N) (d) : (dats m 0 c).before 4 t d = iblk m c 4 t :=
  before0_4_of m (dats m 0 c) (A_eq m c 4) (after4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the output window's buffer as it was found, at a point idle for it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

/-- A forward point extends the invariant by its slab. -/
theorem sound_forward (c : Dev nD) (t : Fin cfg0.N) (ht : t.val < 16) :
    bodyPre m c t ⊢ wp frame (wpE (defs₀ (F := F)) Variants.none c none) Set.univ (bodyAt0 t) (fun _ => bodyPost m c t) := by
  unfold bodyPre bodyPost bodyAt0
  have hc : ((grid0.coords t) 0).val = t.val := coords_val t
  obtain ⟨hi, hf⟩ := idle5 t (by omega)
  rw [Dat.leavesExact_idle (dats m 0 c) 5 t hi hf]
  simp only [before0, before1, before2, before3, before4]
  rw [phi_castSucc, phi_succ, show (dats m 0 c).owesAt () t.succ = (dats m 0 c).owesAt () t.castSucc from rfl,
    after0, after1, after2, after3, after4]
  unfold PhiS
  iintro ⟨⟨%x7, %x8, %hx, H7, H8, Hr⟩, Ho, ⟨%d0, H0⟩, ⟨%d1, H1⟩, ⟨%d2, H2⟩, ⟨%d3, H3⟩, ⟨%d4, H4⟩, H5⟩
  iapply (forward_body c Set.univ (grid0.coords t) (by rw [hc]; exact ht) _ _ _ _ _ _ _ _ _ _ _ _ _ _ _ _ (iblk m c 0 t) (iblk m c 3 t) x7 _)
  isplitl [H0]; · iexact H0
  isplitl [H3]; · iexact H3
  isplitl [H7]; · iexact H7
  iintro %x7' ⟨%h7, H0, H3, H7⟩
  isplitl [H7 H8 Hr]
  · iexists x7', x8
    isplitr
    · ipureintro
      refine ⟨fun y hy => ?_, fun h => absurd h (by omega)⟩
      rw [h7 y]
      by_cases he : (y 0).val = t.val
      · rw [if_pos (he.trans hc.symm)]
        have e : pt (y 0).val (by have : (y 0).val < 16 := (y 0).isLt; omega) = t := Fin.ext he
        unfold xAt fwd
        rw [e]
        rfl
      · rw [if_neg (by rw [hc]; exact he)]
        exact hx.1 y (by omega)
    isplitl [H7]; · iexact H7
    isplitl [H8]; · iexact H8
    iexact Hr
  isplitl [Ho]; · iexact Ho
  isplitl [H0]; · iexact H0
  isplitl [H1]; · iexact H1
  isplitl [H2]; · iexact H2
  isplitl [H3]; · iexact H3
  isplitl [H4]; · iexact H4
  iexact H5

/-- The mixing point finds the first scratch whole and leaves the second whole. -/
theorem sound_mix (c : Dev nD) (t : Fin cfg0.N) (ht : t.val = 16) :
    bodyPre m c t ⊢ wp frame (wpE (defs₀ (F := F)) Variants.none c none) Set.univ (bodyAt0 t) (fun _ => bodyPost m c t) := by
  unfold bodyPre bodyPost bodyAt0
  have hc : ((grid0.coords t) 0).val = t.val := coords_val t
  obtain ⟨hi, hf⟩ := idle5 t (by omega)
  rw [Dat.leavesExact_idle (dats m 0 c) 5 t hi hf]
  simp only [before0, before1, before2, before3, before4]
  rw [phi_castSucc, phi_succ, show (dats m 0 c).owesAt () t.succ = (dats m 0 c).owesAt () t.castSucc from rfl,
    after0, after1, after2, after3, after4]
  unfold PhiS
  iintro ⟨⟨%x7, %x8, %hx, H7, H8, Hr⟩, Ho, ⟨%d0, H0⟩, ⟨%d1, H1⟩, ⟨%d2, H2⟩, ⟨%d3, H3⟩, ⟨%d4, H4⟩, H5⟩
  have e7 : x7 = xAt m c := funext fun y => hx.1 y (by have : (y 0).val < 16 := (y 0).isLt; omega)
  have et : t = pt 16 (by decide) := Fin.ext ht
  iapply (mix_body c Set.univ (grid0.coords t) (by rw [hc]; exact ht) _ _ _ _ _ _ _ _ _ _ _ _ _ _ _ _ (iblk m c 1 t) (iblk m c 2 t) x7 _)
  isplitl [H1]; · iexact H1
  isplitl [H2]; · iexact H2
  isplitl [H7]; · iexact H7
  isplitl [H8]; · iexists _; iexact H8
  iintro ⟨H1, H2, H7, H8⟩
  isplitl [H7 H8 Hr]
  · iexists x7, _
    isplitr
    swap
    · isplitl [H7]; · iexact H7
      isplitl [H8]; · iexact H8
      iexact Hr
    ipureintro
    refine ⟨fun y _ => by rw [e7], fun _ => ?_⟩
    unfold cAt
    rw [e7, et]
  isplitl [Ho]; · iexact Ho
  isplitl [H0]; · iexact H0
  isplitl [H1]; · iexact H1
  isplitl [H2]; · iexact H2
  isplitl [H3]; · iexact H3
  isplitl [H4]; · iexact H4
  iexact H5

/-- An inverse point writes its block and leaves the invariant as it was. -/
theorem sound_inverse (c : Dev nD) (t : Fin cfg0.N) (ht : 16 < t.val) :
    bodyPre m c t ⊢ wp frame (wpE (defs₀ (F := F)) Variants.none c none) Set.univ (bodyAt0 t) (fun _ => bodyPost m c t) := by
  unfold bodyPre bodyPost bodyAt0
  have hc : ((grid0.coords t) 0).val = t.val := coords_val t
  have hl : (dats m 0 c).leavesExact 5 t = owns (c : Thread nD τ) (st0_5 t) fullShare ((dats m 0 c).after 5 t) := by
    have hi : cfg0.idle 5 (cfg0.grid.coords t) = false := live5 t ht
    unfold Dat.leavesExact; rw [hi]
  rw [hl]
  simp only [before0, before1, before2, before3, before4]
  rw [phi_castSucc, phi_succ, show (dats m 0 c).owesAt () t.succ = (dats m 0 c).owesAt () t.castSucc from rfl,
    after0, after1, after2, after3, after4, after5]
  unfold PhiS
  iintro ⟨⟨%x7, %x8, %hx, H7, H8, Hr⟩, Ho, ⟨%d0, H0⟩, ⟨%d1, H1⟩, ⟨%d2, H2⟩, ⟨%d3, H3⟩, ⟨%d4, H4⟩, ⟨%d5, H5⟩⟩
  have e8 : x8 = cAt m c := hx.2 (by omega)
  have e : k0_pay2 (fun x => x8 (ix3 ⟨(((grid0.coords t) 0).val - 17) % 16, Nat.mod_lt _ (by decide)⟩ (x 1) (x 2))) (View.ld (iblk m c 4 t : Vec F S4096x48 .f32) rbi) = inv m c t := by
    unfold inv
    rw [e8]
    simp only [hc]
  rw [← e]
  iapply (inverse_body c Set.univ (grid0.coords t) (by rw [hc]; exact ht) _ _ _ _ _ _ _ _ _ _ _ _ _ _ _ _ (iblk m c 4 t) x8 _)
  isplitl [H4]; · iexact H4
  isplitl [H8]; · iexact H8
  isplitl [H5]; · iexists _; iexact H5
  iintro ⟨H4, H8, H5⟩
  isplitl [H7 H8 Hr]
  · iexists x7, x8
    isplitr
    · ipureintro
      exact ⟨fun y hy => hx.1 y (by have : (y 0).val < 16 := (y 0).isLt; omega), fun _ => e8⟩
    isplitl [H7]; · iexact H7
    isplitl [H8]; · iexact H8
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body at any point, by which of the three phases the point is in. -/
theorem sound_body (c : Dev nD) (t : Fin cfg0.N) :
    bodyPre m c t ⊢ wp frame (wpE (defs₀ (F := F)) Variants.none c none) Set.univ (bodyAt0 t) (fun _ => bodyPost m c t) := by
  rcases Nat.lt_trichotomy t.val 16 with h | h | h
  · exact sound_forward m c t h
  · exact sound_mix m c t h
  · exact sound_inverse m c t h

/-- The body table's row at point `t`'s slots is the body as `bodyAt0` spells it. -/
theorem row (t : Fin cfg0.N) : defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, row]
  exact triple_restated (sound_body m c t) rfl .rfl fun _ => .rfl

/-- The invariant is entered from scratches at anything, -/
theorem phi_in (c : Dev nD) : Pipeline.ΦA spec0 c ⊢ (dats (F := F) m 0 c).Φ 0 := by
  rw [show (dats (F := F) m 0 c).Φ 0 = PhiS m c 0 from by dsimp only [dats]; rfl]
  unfold Pipeline.ΦA PhiS
  rw [scopedRest0_eq]
  simp only [owns_whole]
  iintro ⟨⟨⟨%f7, H7⟩, ⟨%f8, H8⟩⟩, Hr⟩
  iexists f7, f8
  isplitr
  · ipureintro; exact ⟨fun y hy => absurd hy (by omega), fun h => absurd h (by omega)⟩
  isplitl [H7]; · iexact H7
  isplitl [H8]; · iexact H8
  iexact Hr

/-- and left to scratches at anything. -/
theorem phi_out (c : Dev nD) : (dats (F := F) m 0 c).Φ (Fin.last cfg0.N) ⊢ Pipeline.ΦA spec0 c := by
  rw [show (dats (F := F) m 0 c).Φ (Fin.last cfg0.N) = PhiS m c 33 from by dsimp only [dats]; rfl]
  unfold Pipeline.ΦA PhiS
  rw [scopedRest0_eq]
  simp only [owns_whole]
  iintro ⟨%x7, %x8, -, H7, H8, Hr⟩
  isplitl [H7 H8]
  · isplitl [H7]
    · iexists _; iexact H7
    iexists _; iexact H8
  iexact Hr

/-! ## The run and the frame -/

set_option backward.isDefEq.respectTransparency.types false in
/-- The launch: every weakly fair execution ends, with the region's arrays at what the proof data computes, the other
    buffers as the host operations after the region leave them, and every semaphore at zero. -/
theorem run_quiescent : θ_run defs (onTc (τ := τ) (main (F := F))) (s₀ m ρ) (fun r => (Pipeline.FramePost cfgs (dats m) 0
    (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

/-- The same without the semaphores. -/
theorem run_arrays : θ_run defs (onTc (τ := τ) (main (F := F))) (s₀ m ρ) (Pipeline.FramePost cfgs (dats m) 0
    (Pipeline.afterTail₀ cfgs (dats m) 0 (V0 m) [hostOps1])) :=
  (θ_run defs _ _).mono (fun _ h => h.1) (run_quiescent m ρ)

/-- The frame claim's statement, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (A_eq m) (run_arrays m ρ)) ((θ_run defs _ _).mono (fun _ h => h.2) (run_quiescent m ρ))

end Cert.Proof.CI

end
-- ==== Proof.CI.Value.lean ====
module

public import proofs.«01_k».proof.Proof.CI.Run
public import Idealize.ShloMosaic.Lib.Pipeline.ValueKit

@[expose] public section

set_option maxRecDepth 16384

noncomputable section

namespace Cert.Proof.CI

open Cert.KernelAtIdeal Cert.KernelAtIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The region's output array: the block of batch `b` and head `h` is the one point `17 + 8 b + h` writes. -/
def outArr (c : Dev nD) : Vec F S2x4096x2048 .f32 := fun j =>
  inv m c (pt (17 + (j 0).val * 8 + (j 2).val / 256) (by
    have : (j 0).val < 2 := (j 0).isLt
    have : (j 2).val < 2048 := (j 2).isLt
    omega)) (ValueIdx.ix3 0 (j 1) ⟨(j 2).val % 256, Nat.mod_lt _ (by decide)⟩)

/-- The output's blocks cover its array. -/
theorem covers5 : (cfg0.win 5).Covers := by decide +kernel

/-- The block index of the output window past the mixing point. -/
theorem index5 : ∀ t : Fin grid0.N, 16 < t.val → win0_5.index t = ![(t.val - 17) / 8, 0, (t.val - 17) % 8] := by decide +kernel
/-- Only the steps after the mixing write a block back. -/
theorem flush5 : ∀ t : Fin grid0.N, (cfg0.win 5).flush t = true → 16 < t.val := by decide +kernel

/-- The region leaves `outArr` in its output array. -/
theorem arr_eq (c : Dev nD) : (dats m 0 c).arrAt 5 (cfgs 0).N = outArr m c := by
  refine (dats m 0 c).arrAt_eq_of_covers 5 _ covers5 fun t hf y => ?_
  have ht := flush5 t hf
  have hi := index5 t ht
  have hN : t.val < 33 := t.isLt
  have hy0 : (y 0).val < 1 := (y 0).isLt
  have hy2 : (y 2).val < 256 := (y 2).isLt
  blk_simp
  rw [after5]
  have h0 : ((win0_5.blk t).view.emb y 0).val = (t.val - 17) / 8 := by
    have := congrFun hi 0
    simp at this
    blk_simp [this]
  have h2 : ((win0_5.blk t).view.emb y 2).val = (t.val - 17) % 8 * 256 + (y 2).val := by
    have := congrFun hi 2
    simp at this
    blk_simp [this]
  have h1 : ((win0_5.blk t).view.emb y 1).val = (y 1).val := by
    have := congrFun hi 1
    simp at this
    blk_simp [this]
  have e1 : 17 + ((win0_5.blk t).view.emb y 0).val * 8 + ((win0_5.blk t).view.emb y 2).val / 256 = t.val := by
    rw [h0, h2]; omega
  have e2 : ((win0_5.blk t).view.emb y 2).val % 256 = (y 2).val := by
    rw [h2]; omega
  unfold outArr
  congr 1
  · congr 1
    exact Fin.ext e1.symm
  · funext d
    apply Fin.ext
    match d with
    | 0 => show (y 0).val = 0; omega
    | 1 => exact h1.symm
    | 2 => exact e2.symm

/-- Different windows have different arrays. -/
theorem arr_inj : Function.Injective (Pipeline.arrRef (cfgs 0).spec) := by decide

/-- The program's result: batch `b`, row `l`, head `h`, channel `e` of what the point `17 + 8 b + h` writes. -/
theorem tail_eq (c : Dev nD) : Pipeline.afterTail₀ cfgs (dats m) 0 (V0 m) [hostOps1] c main_v49
    = fun i => outArr m c (ValueIdx.ix3 (i 0) (i 1) ⟨(i 2).val * 256 + (i 3).val, by
        have : (i 2).val < 8 := (i 2).isLt
        have : (i 3).val < 256 := (i 3).isLt
        omega⟩) := by
  unfold Pipeline.afterTail₀
  simp only [hostOps1, List.flatten_cons, List.flatten_nil, List.append_nil]
  after_results_simp
  funext i
  have e : Pipeline.withArrays (cfgs 0).spec c (V0 m c) (fun w => (dats m 0 c).arrAt w (cfgs 0).N) (Proc.tc.devRef main_v48) = outArr m c := by
    rw [← arr_eq]
    exact Pipeline.withArrays_arr (cfgs 0).spec arr_inj c (V0 m c) (fun w => (dats m 0 c).arrAt w (cfgs 0).N) 5
  rw [e]
  generalize outArr m c = X
  pointwise
  rfl

end Cert.Proof.CI

end
-- ==== Proof.CI.Blocks.lean ====
module

public import proofs.«01_k».proof.Proof.CI.Value
public import proofs.«01_k».proof.Proof.KI.Ideal
public import proofs.«01_k».proof.Proof.Gen.MathematicsAtIdeal.Read

@[expose] public section

set_option maxRecDepth 16384

noncomputable section

namespace Cert.Proof.CI

open Cert.KernelAtIdeal Cert.KernelAtIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

/-- The block of the signal that a forward step reads. -/
theorem index0 : ∀ t : Fin grid0.N, t.val < 16 → win0_0.index t = ![t.val / 8, 0, t.val % 8] := by decide +kernel
/-- Window 1 always holds its whole array. -/
theorem index1 : ∀ t : Fin grid0.N, win0_1.index t = ![0, 0, 0] := by decide +kernel
/-- Window 2 always holds its whole array. -/
theorem index2 : ∀ t : Fin grid0.N, win0_2.index t = ![0, 0, 0] := by decide +kernel
/-- Window 3 always holds its whole array. -/
theorem index3 : ∀ t : Fin grid0.N, win0_3.index t = ![0, 0] := by decide +kernel
/-- Window 4 always holds its whole array. -/
theorem index4 : ∀ t : Fin grid0.N, win0_4.index t = ![0, 0] := by decide +kernel

/-- What the host lines before the last stretch leave: the arrays, and the integer phase reduced. -/
def σ4 (c : Dev nD) : Valuation τ sig (Elt F) :=
  StableHlo.after hostOps0_3 (StableHlo.after hostOps0_2 (StableHlo.after hostOps0_1 (StableHlo.after hostOps0 (fun b => m (c, b)))))

/-- The host lines before the region, one stretch after the other. -/
theorem V0_eq (c : Dev nD) : V0 m c = StableHlo.after hostOps0_4 (σ4 m c) := by
  unfold V0 σ4
  rw [show List.flatten [hostOps0, hostOps0_1, hostOps0_2, hostOps0_3, hostOps0_4]
      = (((hostOps0 ++ hostOps0_1) ++ hostOps0_2) ++ hostOps0_3) ++ (hostOps0_4 : List (HloOp τ sig (Elt F))) from by
    simp only [List.flatten_cons, List.flatten_nil, List.append_nil, List.append_assoc]]
  rw [StableHlo.after_append, StableHlo.after_append, StableHlo.after_append, StableHlo.after_append]

/-- A table of one number per mode, whose first is set apart. -/
def table (a z : BitVec 32) : FVec F S8x1 .f32 :=
  Host.scatter scatter_S8x1_S2_S__n_01_01_0 (fun _ b => b) (broadcastInDim S8x1 ![] bcast_S_S8x1 (constant S_ .f32 a))
    (concatenate S2 0 [⟨S1, broadcastInDim S1 ![] bcast_S_S1 (constantI S_ 32 0#32)⟩, ⟨S1, broadcastInDim S1 ![] bcast_S_S1 (constantI S_ 32 0#32)⟩] concatenates_S1_S1_S2_d0)
    (constant S_ .f32 z)

/-- The kernel's inverse basis: the scaled cosines, then the scaled sines, a row per time. -/
def basis (p : IVec S8x4096 32) : FVec F S4096x16 .f32 :=
  transpose S4096x16 [1, 0] (concatenate S16x4096 0
    [⟨S8x4096, mulf (broadcastInDim S8x4096 ![0, 1] bcast_S8x1_S8x4096_0_1 (table (F := F) 0x3A000000#32 0x39800000#32)) (Host.cos (KI.ang p))⟩,
     ⟨S8x4096, mulf (broadcastInDim S8x4096 ![0, 1] bcast_S8x1_S8x4096_0_1 (table (F := F) 0xB9800000#32 0x00000000#32)) (Host.sin (KI.ang p))⟩]
    concatenates_S8x4096_S8x4096_S16x4096_d0) transposes_S16x4096_S4096x16_1_0

/-- The forward basis as the last host lines leave it: the rounded part stacked on the rest. -/
theorem line_v26 (σ : Valuation τ sig (Elt F)) : (StableHlo.after hostOps0_4 σ (Proc.devRef .tc main_v26) : Vec F S32x4096 .f32)
    = concatenate S32x4096 0 [⟨S16x4096, extf .f32 (truncf .bf16 (KI.bf (F := F) (σ (Proc.devRef .tc main_v15))) bitsLt_bf16_f32) bitsLt_bf16_f32⟩,
        ⟨S16x4096, subf (KI.bf (F := F) (σ (Proc.devRef .tc main_v15))) (extf .f32 (truncf .bf16 (KI.bf (F := F) (σ (Proc.devRef .tc main_v15))) bitsLt_bf16_f32) bitsLt_bf16_f32)⟩]
        concatenates_S16x4096_S16x4096_S32x4096_d0 := by
  after_results_simp
  rfl

set_option maxHeartbeats 4000000 in
/-- The inverse basis before it is split. -/
theorem line_v42 (σ : Valuation τ sig (Elt F)) : (StableHlo.after hostOps0_4 σ (Proc.devRef .tc main_v42) : Vec F S4096x16 .f32)
    = basis (σ (Proc.devRef .tc main_v15)) := by
  after_results_simp
  rfl

set_option maxHeartbeats 4000000 in
/-- The inverse basis as the last host lines leave it: rounded part, rest, rounded part. -/
theorem line_v46 (σ : Valuation τ sig (Elt F)) : (StableHlo.after hostOps0_4 σ (Proc.devRef .tc main_v46) : Vec F S4096x48 .f32)
    = (fun b : FVec F S4096x16 .f32 => KI.cat3 (extf .f32 (truncf .bf16 b bitsLt_bf16_f32) bitsLt_bf16_f32)
        (subf b (extf .f32 (truncf .bf16 b bitsLt_bf16_f32) bitsLt_bf16_f32))
        (extf .f32 (truncf .bf16 b bitsLt_bf16_f32) bitsLt_bf16_f32)) (basis (σ (Proc.devRef .tc main_v15))) := by
  after_results_simp
  dsimp only [Matrix.cons_val]
  change KI.cat3 _ _ _ = KI.cat3 _ _ _
  after_results_simp
  rfl

/-- The signal with its two channel axes merged. -/
theorem line_v47 (σ : Valuation τ sig (Elt F)) : (StableHlo.after hostOps0_4 σ (Proc.devRef .tc main_v47) : Vec F S2x4096x2048 .f32)
    = shapeCast S2x4096x2048 (σ (Proc.devRef .tc main_v5) : Vec F S2x4096x8x256 .f32) shapeCasts_S2x4096x8x256_S2x4096x2048 := by
  after_results_simp
  rfl
/-- The last stretch leaves the weights' real parts. -/
theorem line_v6 (σ : Valuation τ sig (Elt F)) : StableHlo.after hostOps0_4 σ (Proc.devRef .tc main_v6) = σ (Proc.devRef .tc main_v6) := by
  after_results_simp
/-- The last stretch leaves the weights' imaginary parts. -/
theorem line_v7 (σ : Valuation τ sig (Elt F)) : StableHlo.after hostOps0_4 σ (Proc.devRef .tc main_v7) = σ (Proc.devRef .tc main_v7) := by
  after_results_simp

/-- The integer phase, reduced modulo the length. -/
theorem line_v15 (σ : Valuation τ sig (Elt F)) (h14 : σ (Proc.devRef .tc main_v14) = Cert.MathematicsAtIdeal.Read.val_main_v14 (F := F))
    (hc : σ (Proc.devRef .tc main_c_3) = Cert.MathematicsAtIdeal.Read.val_main_c_3 (F := F)) :
    (StableHlo.after hostOps0_3 σ (Proc.devRef .tc main_v15) : IVec S8x4096 32) = Cert.MathematicsAtIdeal.Read.val_main_v15 (F := F) := by
  after_reads_simp
  rw [h14, hc]
  rfl
/-- The integer phase, before its reduction. -/
theorem line_v14 (σ : Valuation τ sig (Elt F)) :
    StableHlo.after hostOps0_2 σ (Proc.devRef .tc main_v14) = Cert.MathematicsAtIdeal.Read.val_main_v14 (F := F) := by
  after_reads_simp
  rfl
/-- The signal's length, the modulus of the phase. -/
theorem line_c_3 (σ : Valuation τ sig (Elt F)) :
    StableHlo.after hostOps0_2 σ (Proc.devRef .tc main_c_3) = Cert.MathematicsAtIdeal.Read.val_main_c_3 (F := F) := by
  after_reads_simp
  rfl
/-- The reduced phase before the last stretch. -/
theorem σ4_v15 (c : Dev nD) : (σ4 m c (Proc.devRef .tc main_v15) : IVec S8x4096 32) = Cert.MathematicsAtIdeal.Read.val_main_v15 (F := F) :=
  line_v15 _ (line_v14 _) (line_c_3 _)
/-- The phase's reduction leaves the signal. -/
theorem keep_v5 (σ : Valuation τ sig (Elt F)) : StableHlo.after hostOps0_3 σ (Proc.devRef .tc main_v5) = σ (Proc.devRef .tc main_v5) := by
  after_results_simp
/-- The phase's reduction leaves the real weights. -/
theorem keep_v6 (σ : Valuation τ sig (Elt F)) : StableHlo.after hostOps0_3 σ (Proc.devRef .tc main_v6) = σ (Proc.devRef .tc main_v6) := by
  after_results_simp
/-- The phase's reduction leaves the imaginary weights. -/
theorem keep_v7 (σ : Valuation τ sig (Elt F)) : StableHlo.after hostOps0_3 σ (Proc.devRef .tc main_v7) = σ (Proc.devRef .tc main_v7) := by
  after_results_simp
/-- The signal is the chosen row spread over batches, heads and channels. -/
theorem spread_v5 (σ : Valuation τ sig (Elt F)) (h3 : σ (Proc.devRef .tc main_v3) = Cert.MathematicsAtIdeal.Read.val_main_v3 (F := F)) :
    StableHlo.after hostOps0_2 σ (Proc.devRef .tc main_v5) = Cert.MathematicsAtIdeal.Read.val_main_v5 (F := F) := by
  after_reads_simp
  rw [h3]
  rfl
/-- The real weights are zeros. -/
theorem made_v6 (σ : Valuation τ sig (Elt F)) :
    StableHlo.after hostOps0_2 σ (Proc.devRef .tc main_v6) = Cert.MathematicsAtIdeal.Read.val_main_v6 (F := F) := by
  after_reads_simp
  rfl
/-- The imaginary weights are ones. -/
theorem made_v7 (σ : Valuation τ sig (Elt F)) :
    StableHlo.after hostOps0_2 σ (Proc.devRef .tc main_v7) = Cert.MathematicsAtIdeal.Read.val_main_v7 (F := F) := by
  after_reads_simp
  rfl
/-- The row that is one at time zero, chosen. -/
theorem made_v3 (σ : Valuation τ sig (Elt F)) (h2 : σ (Proc.devRef .tc main_v2) = Cert.MathematicsAtIdeal.Read.val_main_v2 (F := F))
    (ha : σ (Proc.devRef .tc main_cst) = Cert.MathematicsAtIdeal.Read.val_main_cst (F := F))
    (hb : σ (Proc.devRef .tc main_cst_0) = Cert.MathematicsAtIdeal.Read.val_main_cst_0 (F := F)) :
    StableHlo.after hostOps0_1 σ (Proc.devRef .tc main_v3) = Cert.MathematicsAtIdeal.Read.val_main_v3 (F := F) := by
  after_reads_simp
  rw [h2, ha, hb]
  rfl
/-- The comparison of the times with zero. -/
theorem made_v2 (σ : Valuation τ sig (Elt F)) :
    StableHlo.after hostOps0 σ (Proc.devRef .tc main_v2) = Cert.MathematicsAtIdeal.Read.val_main_v2 (F := F) := by
  after_reads_simp
  rfl
/-- The constant one. -/
theorem made_cst (σ : Valuation τ sig (Elt F)) :
    StableHlo.after hostOps0 σ (Proc.devRef .tc main_cst) = Cert.MathematicsAtIdeal.Read.val_main_cst (F := F) := by
  after_reads_simp
  rfl
/-- The constant zero. -/
theorem made_cst_0 (σ : Valuation τ sig (Elt F)) :
    StableHlo.after hostOps0 σ (Proc.devRef .tc main_cst_0) = Cert.MathematicsAtIdeal.Read.val_main_cst_0 (F := F) := by
  after_reads_simp
  rfl
/-- The signal before the last stretch: the impulse. -/
theorem σ4_v5 (c : Dev nD) : (σ4 m c (Proc.devRef .tc main_v5) : Vec F S2x4096x8x256 .f32) = Cert.MathematicsAtIdeal.Read.val_main_v5 (F := F) :=
  (keep_v5 _).trans (spread_v5 _ (made_v3 _ (made_v2 _) (made_cst _) (made_cst_0 _)))
/-- The weights' real parts before the last stretch: zeros. -/
theorem σ4_v6 (c : Dev nD) : (σ4 m c (Proc.devRef .tc main_v6) : Vec F S8x256x256 .f32) = Cert.MathematicsAtIdeal.Read.val_main_v6 (F := F) :=
  (keep_v6 _).trans (made_v6 _)
/-- The weights' imaginary parts before the last stretch: ones. -/
theorem σ4_v7 (c : Dev nD) : (σ4 m c (Proc.devRef .tc main_v7) : Vec F S8x256x256 .f32) = Cert.MathematicsAtIdeal.Read.val_main_v7 (F := F) :=
  (keep_v7 _).trans (made_v7 _)

/-- The real weights at the region's entry. -/
theorem V_v6 (c : Dev nD) : (V m c main_v6 : Vec F S8x256x256 .f32) = Cert.MathematicsAtIdeal.Read.val_main_v6 (F := F) := by
  unfold V
  rw [V0_eq, line_v6, σ4_v6]
/-- The imaginary weights at the region's entry. -/
theorem V_v7 (c : Dev nD) : (V m c main_v7 : Vec F S8x256x256 .f32) = Cert.MathematicsAtIdeal.Read.val_main_v7 (F := F) := by
  unfold V
  rw [V0_eq, line_v7, σ4_v7]
/-- The merged signal at the region's entry. -/
theorem V_v47 (c : Dev nD) : (V m c main_v47 : Vec F S2x4096x2048 .f32)
    = shapeCast S2x4096x2048 (Cert.MathematicsAtIdeal.Read.val_main_v5 (F := F)) shapeCasts_S2x4096x8x256_S2x4096x2048 := by
  unfold V
  rw [V0_eq, line_v47, σ4_v5]

/-- The block of the signal a forward point reads, of any arrays: batch `t / 8`, head `t % 8`. -/
theorem read0 {c : Dev nD} (A : (b : Ref sig .tc) → Buf (Elt F) ((c : Thread nD τ).loc b)) (t : Fin cfg0.N) (ht : t.val < 16) (l : Fin 4096) (e : Fin 256) :
    (((cfg0.win 0).blk t).view.read (Elt F) (A (Pipeline.arrRef spec0 0)) : Vec F S1x4096x256 .f32) (ix3 0 l e)
      = A main_v47 (ix3 ⟨t.val / 8, by omega⟩ l ⟨t.val % 8 * 256 + e.val, by omega⟩) := by
  have h0 : win0_0.index t 0 = t.val / 8 := congrFun (index0 t ht) 0
  have h1 : win0_0.index t 1 = 0 := congrFun (index0 t ht) 1
  have h2 : win0_0.index t 2 = t.val % 8 := congrFun (index0 t ht) 2
  blk_simp
  congr 1
  blk_ext [h0, h1, h2]
/-- The block of the signal a forward point reads. -/
theorem blk0 (c : Dev nD) (t : Fin cfg0.N) (ht : t.val < 16) (l : Fin 4096) (e : Fin 256) :
    (iblk m c 0 t : Vec F S1x4096x256 .f32) (ix3 0 l e)
      = V m c main_v47 (ix3 ⟨t.val / 8, by omega⟩ l ⟨t.val % 8 * 256 + e.val, by omega⟩) := read0 (V m c) t ht l e

/-- The block of the real weights, of any arrays, is the whole array. -/
theorem read1 {c : Dev nD} (A : (b : Ref sig .tc) → Buf (Elt F) ((c : Thread nD τ).loc b)) (t : Fin cfg0.N) :
    (((cfg0.win 1).blk t).view.read (Elt F) (A (Pipeline.arrRef spec0 1)) : Vec F S8x256x256 .f32) = A main_v6 := by
  funext y
  have h0 : win0_1.index t 0 = 0 := congrFun (index1 t) 0
  have h1 : win0_1.index t 1 = 0 := congrFun (index1 t) 1
  have h2 : win0_1.index t 2 = 0 := congrFun (index1 t) 2
  blk_simp
  congr 1
  blk_ext [h0, h1, h2]
/-- The block of the real weights is the whole array. -/
theorem blk1 (c : Dev nD) (t : Fin cfg0.N) : (iblk m c 1 t : Vec F S8x256x256 .f32) = V m c main_v6 := read1 (V m c) t

/-- The block of the imaginary weights, of any arrays, is the whole array. -/
theorem read2 {c : Dev nD} (A : (b : Ref sig .tc) → Buf (Elt F) ((c : Thread nD τ).loc b)) (t : Fin cfg0.N) :
    (((cfg0.win 2).blk t).view.read (Elt F) (A (Pipeline.arrRef spec0 2)) : Vec F S8x256x256 .f32) = A main_v7 := by
  funext y
  have h0 : win0_2.index t 0 = 0 := congrFun (index2 t) 0
  have h1 : win0_2.index t 1 = 0 := congrFun (index2 t) 1
  have h2 : win0_2.index t 2 = 0 := congrFun (index2 t) 2
  blk_simp
  congr 1
  blk_ext [h0, h1, h2]
/-- The block of the imaginary weights is the whole array. -/
theorem blk2 (c : Dev nD) (t : Fin cfg0.N) : (iblk m c 2 t : Vec F S8x256x256 .f32) = V m c main_v7 := read2 (V m c) t

/-- The block of the forward basis, of any arrays, is the whole array. -/
theorem read3 {c : Dev nD} (A : (b : Ref sig .tc) → Buf (Elt F) ((c : Thread nD τ).loc b)) (t : Fin cfg0.N) :
    (((cfg0.win 3).blk t).view.read (Elt F) (A (Pipeline.arrRef spec0 3)) : Vec F S32x4096 .f32) = A main_v26 := by
  funext y
  have h0 : win0_3.index t 0 = 0 := congrFun (index3 t) 0
  have h1 : win0_3.index t 1 = 0 := congrFun (index3 t) 1
  blk_simp
  congr 1
  blk_ext [h0, h1]
/-- The block of the forward basis is the whole array. -/
theorem blk3 (c : Dev nD) (t : Fin cfg0.N) : (iblk m c 3 t : Vec F S32x4096 .f32) = V m c main_v26 := read3 (V m c) t

/-- The block of the inverse basis, of any arrays, is the whole array. -/
theorem read4 {c : Dev nD} (A : (b : Ref sig .tc) → Buf (Elt F) ((c : Thread nD τ).loc b)) (t : Fin cfg0.N) :
    (((cfg0.win 4).blk t).view.read (Elt F) (A (Pipeline.arrRef spec0 4)) : Vec F S4096x48 .f32) = A main_v46 := by
  funext y
  have h0 : win0_4.index t 0 = 0 := congrFun (index4 t) 0
  have h1 : win0_4.index t 1 = 0 := congrFun (index4 t) 1
  blk_simp
  congr 1
  blk_ext [h0, h1]
/-- The block of the inverse basis is the whole array. -/
theorem blk4 (c : Dev nD) (t : Fin cfg0.N) : (iblk m c 4 t : Vec F S4096x48 .f32) = V m c main_v46 := read4 (V m c) t

end Cert.Proof.CI

end
-- ==== Proof.CI.Ideal.lean ====
module

public import proofs.«01_k».proof.Proof.CI.Blocks

@[expose] public section

set_option maxRecDepth 16384

noncomputable section

namespace Cert.Proof.CI

open Cert.KernelAtIdeal Cert.KernelAtIdeal.Gen
open Idealize.ShloMosaic Idealize.ShloMosaic.TcCoe Idealize.ShloMosaic.Tactic
open Idealize.SL Idealize.SL.Sem
open Cert.Proof.RI (C S xr xi yr yi mixed)
open Cert.Proof.KI (bfAt isR_bfAt isR_C isR_S bf_eq)

variable (m : (ℓ : Loc nD τ sig) → Buf (Elt Ideal) ℓ) (c : Dev nD)

/-- The signal: the impulse that the host builds. -/
def q : Vec Ideal S2x4096x8x256 .f32 := Cert.MathematicsAtIdeal.Read.val_main_v5 (F := Ideal)
/-- The weights' real parts: zeros. -/
def wr : Vec Ideal S8x256x256 .f32 := Cert.MathematicsAtIdeal.Read.val_main_v6 (F := Ideal)
/-- The weights' imaginary parts: ones. -/
def wi : Vec Ideal S8x256x256 .f32 := Cert.MathematicsAtIdeal.Read.val_main_v7 (F := Ideal)
/-- The inverse basis of version v02, before it is split. -/
def bi : Vec Ideal S4096x16 .f32 := basis (F := Ideal) (Cert.ReferenceIdeal.Read.val_main_v7 (F := Ideal))

/-- Every element the region reads is a real. -/
structure Reals : Prop where
  q : ∀ i, IsR (q i)
  wr : ∀ i, IsR (wr i)
  wi : ∀ i, IsR (wi i)
  bi : ∀ i, IsR (bi i)

/-- The reduced phase is the one that the stated reference takes. -/
theorem phase_eq : (Cert.MathematicsAtIdeal.Read.val_main_v15 (F := Ideal) : IVec S8x4096 32) = Cert.ReferenceIdeal.Read.val_main_v7 (F := Ideal) := rfl
/-- The reduced phase before the last stretch. -/
theorem σ4_phase : (σ4 m c (Proc.devRef .tc main_v15) : IVec S8x4096 32) = Cert.ReferenceIdeal.Read.val_main_v7 (F := Ideal) :=
  (σ4_v15 m c).trans phase_eq

/-- The forward table that the region reads. -/
def tf : Vec Ideal S32x4096 .f32 := V m c main_v26
/-- The inverse table that the region reads. -/
def ti : Vec Ideal S4096x48 .f32 := V m c main_v46

/-- The forward table the region reads: the table, over the rounding errors, which are none. -/
theorem v18_hi (r : Fin 16) (l : Fin 4096) : tf m c (ix2 ⟨r.val, by omega⟩ l) = bfAt r l := by
  unfold tf V
  rw [V0_eq, line_v26, σ4_phase]
  generalize hb : KI.bf (F := Ideal) (Cert.ReferenceIdeal.Read.val_main_v7 (F := Ideal)) = B
  pointwise
  rw [← hb, bf_eq]
/-- Over the reals the second half of the forward table is zero. -/
theorem v18_lo (r : Fin 16) (l : Fin 4096) : tf m c (ix2 ⟨16 + r.val, by omega⟩ l) = 0 := by
  unfold tf V
  rw [V0_eq, line_v26, σ4_phase]
  generalize hb : KI.bf (F := Ideal) (Cert.ReferenceIdeal.Read.val_main_v7 (F := Ideal)) = B
  pointwise
  rw [← hb, bf_eq]
  exact (isR_bfAt r l).sub_self

/-- The inverse basis the region reads: the basis, its rounding errors, which are none, and the basis again. -/
theorem v22_eq (l : Fin 4096) (k : Fin 48) : ti m c (ix2 l k)
    = if h : k.val < 16 then bi (ix2 l ⟨k.val, h⟩)
      else if h : k.val - 16 < 16 then bi (ix2 l ⟨k.val - 16, h⟩) - bi (ix2 l ⟨k.val - 16, h⟩)
      else bi (ix2 l ⟨k.val - 16 - 16, by omega⟩) := by
  unfold ti V
  rw [V0_eq, line_v46, σ4_phase]
  show KI.cat3 (extf .f32 (truncf (F := Ideal) .bf16 bi bitsLt_bf16_f32) bitsLt_bf16_f32) (subf (F := Ideal) bi (extf .f32 (truncf (F := Ideal) .bf16 bi bitsLt_bf16_f32) bitsLt_bf16_f32))
    (extf .f32 (truncf (F := Ideal) .bf16 bi bitsLt_bf16_f32) bitsLt_bf16_f32) (ix2 l k) = _
  generalize bi = B
  pointwise [KI.cat3]

/-- The merged signal, entry by entry. -/
theorem v23_eq (b : Fin 2) (l : Fin 4096) (h : Fin 8) (e : Fin 256) :
    (V m c main_v47 : Vec Ideal S2x4096x2048 .f32) (ix3 b l ⟨h.val * 256 + e.val, by omega⟩) = q (ix4 b l h e) := by
  rw [V_v47]
  show shapeCast S2x4096x2048 q shapeCasts_S2x4096x8x256_S2x4096x2048 _ = _
  generalize q = Q
  pointwise

/-- The first scratch, past the forward points, holds the transform of batch `p / 8`, head `p % 8`. -/
theorem xAt_eq (p : Fin 16) (r : Fin 16) (e : Fin 256) :
    (xAt m c : Vec Ideal S16x16x256 .f32) (ix3 p r e) = ∑ l : Fin 4096, bfAt r l * q (ix4 ⟨p.val / 8, by omega⟩ l ⟨p.val % 8, by omega⟩ e) := by
  have h : (xAt m c : Vec Ideal S16x16x256 .f32) (ix3 p r e) = fwd m c (pt p.val (by omega)) (ix3 0 r e) := rfl
  rw [h, fwd]
  refine (KI.pay1_apply _ _ r e).trans ?_
  have hq : ∀ l, View.ld (iblk m c 0 (pt p.val (by omega)) : Vec Ideal S1x4096x256 .f32) rq (ix3 0 l e)
      = q (ix4 ⟨p.val / 8, by omega⟩ l ⟨p.val % 8, by omega⟩ e) := fun l => by
    rw [← v23_eq, ← blk0 m c (pt p.val (by omega)) p.isLt]
    pointwise
  have hb : ∀ (a : Fin 32) l, View.ld (iblk m c 3 (pt p.val (by omega)) : Vec Ideal S32x4096 .f32) rbf (ix2 a l)
      = tf m c (ix2 a l) := fun a l => by
    unfold tf
    rw [← blk3 m c (pt p.val (by omega))]
    pointwise
  simp only [hq, hb, v18_hi, v18_lo, zero_mul, Finset.sum_const_zero, add_zero]

/-- The real part of a mode that the forward phase leaves in the scratch. -/
theorem xAt_re (p : Fin 16) (k : Fin 8) (e : Fin 256) :
    (xAt m c : Vec Ideal S16x16x256 .f32) (ix3 p (kre k) e) = xr q k ⟨p.val / 8, by omega⟩ ⟨p.val % 8, by omega⟩ e := by
  rw [xAt_eq]
  refine Finset.sum_congr rfl fun l _ => ?_
  rw [bfAt, dif_pos k.isLt]

/-- The imaginary part of a mode that the forward phase leaves in the scratch. -/
theorem xAt_im (hR : Reals) (p : Fin 16) (k : Fin 8) (e : Fin 256) :
    (xAt m c : Vec Ideal S16x16x256 .f32) (ix3 p (kim k) e) = xi q k ⟨p.val / 8, by omega⟩ ⟨p.val % 8, by omega⟩ e := by
  rw [xAt_eq, xi, neg_sum _ fun l => (isR_S k l).mul (hR.q _)]
  refine Finset.sum_congr rfl fun l _ => ?_
  have hk : ¬ (kim k).val < 8 := by simp
  rw [bfAt, dif_neg hk, EReal.neg_mul]
  congr 3
  exact Fin.ext (by simp)

/-- Reading one row of the scratch. -/
theorem ld_row (r p : Fin 16) (e : Fin 256) : View.ld (xAt m c : Vec Ideal S16x16x256 .f32) (rrow r) (ix3 p 0 e) = xAt m c (ix3 p r e) := by
  pointwise
/-- Reading one mode's weights. -/
theorem ld_mode (w : Vec Ideal S8x256x256 .f32) (k : Fin 8) (e o : Fin 256) : View.ld w (rmode k) (ix3 0 e o) = w (ix3 k e o) := by
  pointwise

/-- The mixed real part is the reference's. -/
theorem mixRe_eq (hR : Reals) (p : Fin 16) (k : Fin 8) (o : Fin 256) :
    mixRe wr wi (xAt m c) k (ix3 p 0 o) = yr q wr wi k ⟨p.val / 8, by omega⟩ ⟨p.val % 8, by omega⟩ o := by
  refine (KI.pay6_apply _ _ _ _ p o).trans ?_
  simp only [ld_row, xAt_re, xAt_im m c hR]
  exact congrArg₂ (fun a b : EReal => a - b) (Finset.sum_congr rfl fun e _ => congrArg _ (ld_mode _ k e o)) (Finset.sum_congr rfl fun e _ => congrArg _ (ld_mode _ k e o))
/-- The mixed imaginary part is the reference's. -/
theorem mixIm_eq (hR : Reals) (p : Fin 16) (k : Fin 8) (o : Fin 256) :
    mixIm wr wi (xAt m c) k (ix3 p 0 o) = yi q wr wi k ⟨p.val / 8, by omega⟩ ⟨p.val % 8, by omega⟩ o := by
  refine (KI.pay7_apply _ _ _ _ p o).trans ?_
  simp only [ld_row, xAt_re, xAt_im m c hR]
  exact congrArg₂ (fun a b : EReal => a + b) (Finset.sum_congr rfl fun e _ => congrArg _ (ld_mode _ k e o)) (Finset.sum_congr rfl fun e _ => congrArg _ (ld_mode _ k e o))

/-- The second scratch, past the mixing point, holds the mixed modes. -/
theorem cAt_eq (hR : Reals) (p : Fin 16) (k : Fin 16) (o : Fin 256) :
    (cAt m c : Vec Ideal S16x16x256 .f32) (ix3 p k o)
      = mixed q wr wi k ⟨p.val / 8, by omega⟩ ⟨p.val % 8, by omega⟩ o := by
  unfold cAt mixed
  rw [blk1, blk2, V_v6, V_v7]
  change mixAt wr wi _ _ = _
  by_cases hk : k.val < 8
  · rw [dif_pos hk]
    exact (dif_pos hk).trans (mixRe_eq m c hR p ⟨k.val, hk⟩ o)
  · rw [dif_neg hk]
    exact (dif_neg hk).trans (mixIm_eq m c hR p ⟨k.val - 8, by omega⟩ o)

/-- The mixed modes are reals. -/
theorem isR_mixed (hR : Reals) (k : Fin 16) (b : Fin 2) (h : Fin 8) (o : Fin 256) : IsR (mixed q wr wi k b h o) := by
  have hxr : ∀ k e, IsR (xr q k b h e) := fun k e => IsR.sum _ fun l => (isR_C k l).mul (hR.q _)
  have hxi : ∀ k e, IsR (xi q k b h e) := fun k e => (IsR.sum _ fun l => (isR_S k l).mul (hR.q _)).neg
  unfold mixed
  split
  · exact (IsR.sum _ fun e => (hxr _ e).mul (hR.wr _)).sub (IsR.sum _ fun e => (hxi _ e).mul (hR.wi _))
  · exact (IsR.sum _ fun e => (hxr _ e).mul (hR.wi _)).add (IsR.sum _ fun e => (hxi _ e).mul (hR.wr _))

/-- The slab of mixed modes an inverse point reads. -/
def slab (t : Fin cfg0.N) : Vec Ideal S1x16x256 .f32 := fun x =>
  cAt m c (ValueIdx.ix3 ⟨(t.val - 17) % 16, Nat.mod_lt _ (by decide)⟩ (x 1) (x 2))

/-- What an inverse point writes: the mixed modes of its batch and head against the inverse basis. -/
theorem inv_eq (hR : Reals) (t : Fin cfg0.N) (l : Fin 4096) (e : Fin 256) :
    (inv m c t : Vec Ideal S1x4096x256 .f32) (ix3 0 l e)
      = ∑ k : Fin 16, mixed q wr wi k ⟨(t.val - 17) % 16 / 8, by omega⟩ ⟨(t.val - 17) % 16 % 8, by omega⟩ e * bi (ix2 l k) := by
  have hb : ∀ k : Fin 48, View.ld (iblk m c 4 t : Vec Ideal S4096x48 .f32) rbi (ix2 l k) = ti m c (ix2 l k) := fun k => by
    unfold ti
    rw [← blk4 m c t]
    pointwise
  have h0 : ∀ k : Fin 16, ti m c (ix2 l ⟨k.val, by omega⟩) = bi (ix2 l k) := fun k => by
    rw [v22_eq, dif_pos k.isLt]
  have h1 : ∀ k : Fin 16, ti m c (ix2 l ⟨16 + k.val, by omega⟩) = 0 := fun k => by
    rw [v22_eq, dif_neg (by simp), dif_pos (by simp)]
    exact (hR.bi _).sub_self
  have hi : inv m c t = k0_pay2 (slab m c t) (View.ld (iblk m c 4 t : Vec Ideal S4096x48 .f32) rbi) := rfl
  rw [hi]
  refine (KI.pay2_apply _ _ l e).trans ?_
  have hc : ∀ k : Fin 16, slab m c t (ix3 0 k e)
      = mixed q wr wi k ⟨(t.val - 17) % 16 / 8, by omega⟩ ⟨(t.val - 17) % 16 % 8, by omega⟩ e := fun k =>
    cAt_eq m c hR ⟨(t.val - 17) % 16, Nat.mod_lt _ (by decide)⟩ k e
  simp only [hb, h0, h1, hc, zero_mul, Finset.sum_const_zero, zero_add, (isR_mixed hR _ _ _ _).sub_self, mul_zero, add_zero]
  exact Finset.sum_congr rfl fun k _ => mul_comm _ _

/-- The kernel's result at an index is the reference's. -/
theorem out_eq (hR : Reals) (b : Fin 2) (l : Fin 4096) (h : Fin 8) (e : Fin 256) :
    (Pipeline.afterTail₀ cfgs (dats m) 0 (V0 m) [hostOps1] c main_v49 : Vec Ideal S2x4096x8x256 .f32) (ix4 b l h e)
      = ∑ k : Fin 16, mixed q wr wi k b h e * bi (ix2 l k) := by
  rw [tail_eq]
  have hn : 17 + b.val * 8 + (h.val * 256 + e.val) / 256 < 33 := by omega
  have he : (⟨(h.val * 256 + e.val) % 256, Nat.mod_lt _ (by decide)⟩ : Fin 256) = e := Fin.ext (by show (h.val * 256 + e.val) % 256 = e.val; omega)
  have : outArr m c (ValueIdx.ix3 b l ⟨h.val * 256 + e.val, by omega⟩)
      = inv m c (pt (17 + b.val * 8 + (h.val * 256 + e.val) / 256) hn) (ix3 0 l ⟨(h.val * 256 + e.val) % 256, Nat.mod_lt _ (by decide)⟩) := rfl
  refine Eq.trans this ?_
  rw [inv_eq m c hR, he]
  have e1 : (⟨((pt (17 + b.val * 8 + (h.val * 256 + e.val) / 256) hn).val - 17) % 16 / 8, by omega⟩ : Fin 2) = b := Fin.ext (by show _ = b.val; dsimp only; omega)
  have e2 : (⟨((pt (17 + b.val * 8 + (h.val * 256 + e.val) / 256) hn).val - 17) % 16 % 8, by omega⟩ : Fin 8) = h := Fin.ext (by show _ = h.val; dsimp only; omega)
  rw [e1, e2]

end Cert.Proof.CI

end
-- ==== Proof.CI.Impulse.lean ====
module

public import proofs.«01_k».proof.Proof.CI.Ideal
public import Idealize.ShloMosaic.Lib.Routing.OpsOne

@[expose] public section

set_option maxRecDepth 16384

noncomputable section

namespace Cert.Proof.CI

open Cert.KernelAtIdeal Cert.KernelAtIdeal.Gen
open Idealize.ShloMosaic
open Cert.Proof.RI (C S xr xi yr yi mixed)
open Cert.Proof.KI (isR_C isR_S)

/-- The bits of zero are zero. -/
theorem bits_zero : Ideal.ofBits .f32 0x00000000#32 = 0 := by
  simp [Ideal.ofBits, Ideal.ieee]
/-- The bits of one are one. -/
theorem bits_one : Ideal.ofBits .f32 0x3F800000#32 = 1 := by
  simp [Ideal.ofBits, Ideal.ieee, -EReal.coe_mul]
  norm_num
/-- The bits of one over the length. -/
theorem bits_inv : Ideal.ofBits .f32 0x39800000#32 = ((1 / 4096 : ℝ) : EReal) := by
  simp [Ideal.ofBits, Ideal.ieee, -EReal.coe_mul]
  norm_num
/-- The bits of two over the length. -/
theorem bits_two : Ideal.ofBits .f32 0x3A000000#32 = ((1 / 2048 : ℝ) : EReal) := by
  simp [Ideal.ofBits, Ideal.ieee, -EReal.coe_mul]
  norm_num
/-- The bits of minus one over the length. -/
theorem bits_neg : Ideal.ofBits .f32 0xB9800000#32 = ((-(1 / 4096) : ℝ) : EReal) := by
  simp [Ideal.ofBits, Ideal.ieee, -EReal.coe_mul]
  norm_num
/-- The angle step is a positive real below two sevenths. -/
theorem bits_step : ∃ s : ℝ, Ideal.ofBits .f32 0x3AC90FDB#32 = (s : EReal) ∧ 0 < s ∧ 7 * s < 2 := by
  refine ⟨13176795 * 2 ^ (-33 : ℤ), ?_, by norm_num, by norm_num⟩
  simp [Ideal.ofBits, Ideal.ieee, -EReal.coe_mul]

/-- The reduced phase at time zero. -/
theorem phase_zero : ∀ k : Fin 8, Cert.ReferenceIdeal.Read.val_main_v7 (F := Ideal) (ix2 k (0 : Fin 4096)) = 0#32 := by decide +kernel
/-- The reduced phase at time one. -/
theorem phase_one : ∀ k : Fin 8, Cert.ReferenceIdeal.Read.val_main_v7 (F := Ideal) (ix2 k (1 : Fin 4096)) = BitVec.ofNat 32 k.val := by decide +kernel

/-- At time zero every cosine is one. -/
theorem C_zero (k : Fin 8) : C k (0 : Fin 4096) = 1 := by
  show Ideal.cos ((((Cert.ReferenceIdeal.Read.val_main_v7 (F := Ideal) (ix2 k (0 : Fin 4096))).toInt : ℝ) : EReal) * Ideal.ofBits .f32 0x3AC90FDB#32) = 1
  obtain ⟨s, hs, -, -⟩ := bits_step
  rw [phase_zero, hs, ← EReal.coe_mul]
  show ((Real.cos _ : ℝ) : EReal) = 1
  simp
/-- At time zero every sine is zero. -/
theorem S_zero (k : Fin 8) : S k (0 : Fin 4096) = 0 := by
  show Ideal.sin ((((Cert.ReferenceIdeal.Read.val_main_v7 (F := Ideal) (ix2 k (0 : Fin 4096))).toInt : ℝ) : EReal) * Ideal.ofBits .f32 0x3AC90FDB#32) = 0
  obtain ⟨s, hs, -, -⟩ := bits_step
  rw [phase_zero, hs, ← EReal.coe_mul]
  show ((Real.sin _ : ℝ) : EReal) = 0
  simp
/-- The sines at time one: zero for mode zero, positive for every other mode. -/
theorem S_one : ∃ f : Fin 8 → ℝ, (∀ k, S k (1 : Fin 4096) = (f k : EReal)) ∧ f 0 = 0 ∧ ∀ k, k ≠ 0 → 0 < f k := by
  obtain ⟨s, hs, h0, h7⟩ := bits_step
  have hi : ∀ k : Fin 8, (BitVec.ofNat 32 k.val).toInt = (k.val : ℤ) := by decide
  refine ⟨fun k => Real.sin ((k.val : ℝ) * s), fun k => ?_, by simp, fun k hk => ?_⟩
  · show Ideal.sin ((((Cert.ReferenceIdeal.Read.val_main_v7 (F := Ideal) (ix2 k (1 : Fin 4096))).toInt : ℝ) : EReal) * Ideal.ofBits .f32 0x3AC90FDB#32) = _
    rw [phase_one, hs, ← EReal.coe_mul, hi]
    rfl
  · have h1 : (1 : ℝ) ≤ (k.val : ℝ) := by
      have : 1 ≤ k.val := Nat.one_le_iff_ne_zero.mpr fun h => hk (Fin.ext h)
      exact_mod_cast this
    have h8 : (k.val : ℝ) ≤ 7 := by
      have : k.val ≤ 7 := by omega
      exact_mod_cast this
    have := Real.two_le_pi
    exact Real.sin_pos_of_pos_of_lt_pi (by nlinarith) (by nlinarith)

/-- The impulse, entry by entry. -/
theorem q_at (b : Fin 2) (l : Fin 4096) (h : Fin 8) (e : Fin 256) : q (ix4 b l h e) = if l = 0 then 1 else 0 := by
  have hq : q (ix4 b l h e) = Scalar.select (IntOp.cmpi .eq (BitVec.ofNat 32 l.val) 0#32) (Ideal.ofBits .f32 0x3F800000#32) (Ideal.ofBits .f32 0x00000000#32) := by
    unfold q
    pointwise [Cert.MathematicsAtIdeal.Read.val_main_v5, Cert.MathematicsAtIdeal.Read.val_main_v4, Cert.MathematicsAtIdeal.Read.val_main_v3,
      Cert.MathematicsAtIdeal.Read.val_main_v2, Cert.MathematicsAtIdeal.Read.val_main_v1, Cert.MathematicsAtIdeal.Read.val_main_v0, Cert.MathematicsAtIdeal.Read.val_main_c,
      Cert.MathematicsAtIdeal.Read.val_main_call0_v0, Cert.MathematicsAtIdeal.Read.val_main_call0_v1, Cert.MathematicsAtIdeal.Read.val_main_cst, Cert.MathematicsAtIdeal.Read.val_main_cst_0]
  rw [hq, bits_one, bits_zero]
  by_cases hl : l = 0
  · subst hl
    rw [if_pos rfl]
    rfl
  · rw [if_neg hl]
    have hb : IntOp.cmpi .eq (BitVec.ofNat 32 l.val) 0#32 = 0#1 := by
      have : BitVec.ofNat 32 l.val ≠ 0#32 := fun h => hl (Fin.ext (by
        have := congrArg BitVec.toNat h
        simp at this
        have hlt := l.isLt
        show l.val = 0
        omega))
      show BitVec.ofBool (BitVec.ofNat 32 l.val == 0#32) = 0#1
      rw [beq_eq_false_iff_ne.mpr this]
      rfl
    rw [hb]
    rfl
/-- Every real weight is zero. -/
theorem wr_at (k : Fin 8) (e o : Fin 256) : wr (ix3 k e o) = 0 := by
  unfold wr
  pointwise [Cert.MathematicsAtIdeal.Read.val_main_v6, Cert.MathematicsAtIdeal.Read.val_main_cst_1]
/-- Every imaginary weight is one. -/
theorem wi_at (k : Fin 8) (e o : Fin 256) : wi (ix3 k e o) = 1 := by
  unfold wi
  pointwise [Cert.MathematicsAtIdeal.Read.val_main_v7, Cert.MathematicsAtIdeal.Read.val_main_cst_2]

/-- The table of one number per mode: `z` for mode zero, `a` for the others. -/
theorem table_at (a z : BitVec 32) (k : Fin 8) : table (F := Ideal) a z (ix2 k (0 : Fin 1)) = if k = 0 then Ideal.ofBits .f32 z else Ideal.ofBits .f32 a := by
  unfold table
  refine (Routing.scatter_cell_signed scatter_S8x1_S2_S__n_01_01_0 rfl rfl rfl _ _ _ k (0 : Fin 1)).trans ?_
  have h0 : (concatenate S2 0 [⟨S1, broadcastInDim S1 ![] bcast_S_S1 (constantI S_ 32 0#32)⟩, ⟨S1, broadcastInDim S1 ![] bcast_S_S1 (constantI S_ 32 0#32)⟩] concatenates_S1_S1_S2_d0) (ValueIdx.ix1 (0 : Fin 2)) = 0#32 := by
    decide +kernel
  have h1 : (concatenate S2 0 [⟨S1, broadcastInDim S1 ![] bcast_S_S1 (constantI S_ 32 0#32)⟩, ⟨S1, broadcastInDim S1 ![] bcast_S_S1 (constantI S_ 32 0#32)⟩] concatenates_S1_S1_S2_d0) (ValueIdx.ix1 (1 : Fin 2)) = 0#32 := by
    decide +kernel
  rw [h0, h1]
  by_cases hk : k = 0
  · subst hk
    rw [if_pos rfl, if_pos ⟨rfl, rfl⟩]
    rfl
  · rw [if_neg hk, if_neg fun h => hk (Fin.ext (by have := h.1; simp at this; show k.val = 0; omega))]
    rfl

/-- The inverse basis of version v02, entry by entry. -/
theorem bi_at (l : Fin 4096) (k : Fin 16) : bi (ix2 l k)
    = if h : k.val < 8 then table (F := Ideal) 0x3A000000#32 0x39800000#32 (ix2 ⟨k.val, h⟩ (0 : Fin 1)) * C ⟨k.val, h⟩ l
      else table (F := Ideal) 0xB9800000#32 0x00000000#32 (ix2 ⟨k.val - 8, by omega⟩ (0 : Fin 1)) * S ⟨k.val - 8, by omega⟩ l := by
  have hc : Host.cos (KI.ang (F := Ideal) (Cert.ReferenceIdeal.Read.val_main_v7 (F := Ideal))) = Cert.ReferenceIdeal.Read.val_main_v11 (F := Ideal) := rfl
  have hs : Host.sin (KI.ang (F := Ideal) (Cert.ReferenceIdeal.Read.val_main_v7 (F := Ideal))) = Cert.ReferenceIdeal.Read.val_main_v13 (F := Ideal) := rfl
  unfold bi basis
  rw [hc, hs]
  generalize table (F := Ideal) 0x3A000000#32 0x39800000#32 = A
  generalize table (F := Ideal) 0xB9800000#32 0x00000000#32 = B
  pointwise [C, S]

/-- Every element the region reads is a real. -/
theorem reals : Reals where
  q i := by
    obtain ⟨b, l, h, e, rfl⟩ : ∃ (b : Fin 2) (l : Fin 4096) (h : Fin 8) (e : Fin 256), i = ix4 b l h e := ⟨i 0, i 1, i 2, i 3, ValueIdx.eq_ix4 i⟩
    rw [q_at]
    split
    · exact ⟨1, rfl⟩
    · exact ⟨0, rfl⟩
  wr i := by
    obtain ⟨k, e, o, rfl⟩ : ∃ (k : Fin 8) (e o : Fin 256), i = ix3 k e o := ⟨i 0, i 1, i 2, ValueIdx.eq_ix3 i⟩
    exact ⟨0, wr_at k e o⟩
  wi i := by
    obtain ⟨k, e, o, rfl⟩ : ∃ (k : Fin 8) (e o : Fin 256), i = ix3 k e o := ⟨i 0, i 1, i 2, ValueIdx.eq_ix3 i⟩
    exact ⟨1, wi_at k e o⟩
  bi i := by
    obtain ⟨l, k, rfl⟩ : ∃ (l : Fin 4096) (k : Fin 16), i = ix2 l k := ⟨i 0, i 1, ValueIdx.eq_ix2 i⟩
    rw [bi_at]
    split
    · refine IsR.mul ?_ (isR_C _ _)
      rw [table_at]
      split
      · exact ⟨_, bits_inv⟩
      · exact ⟨_, bits_two⟩
    · refine IsR.mul ?_ (isR_S _ _)
      rw [table_at]
      split
      · exact ⟨_, bits_zero⟩
      · exact ⟨_, bits_neg⟩

/-- Each mode of the impulse has real part one -/
theorem xr_at (k : Fin 8) (b : Fin 2) (h : Fin 8) (e : Fin 256) : xr q k b h e = 1 := by
  unfold xr
  rw [Finset.sum_eq_single (0 : Fin 4096) (fun l _ hl => by rw [q_at, if_neg hl, mul_zero]) (fun h => absurd (Finset.mem_univ _) h), q_at, if_pos rfl, C_zero, mul_one]
/-- and imaginary part zero. -/
theorem xi_at (k : Fin 8) (b : Fin 2) (h : Fin 8) (e : Fin 256) : xi q k b h e = 0 := by
  unfold xi
  rw [Finset.sum_eq_single (0 : Fin 4096) (fun l _ hl => by rw [q_at, if_neg hl, mul_zero]) (fun h => absurd (Finset.mem_univ _) h), q_at, if_pos rfl, S_zero, mul_one, neg_zero]
/-- Each mixed mode has real part zero -/
theorem yr_at (k : Fin 8) (b : Fin 2) (h : Fin 8) (o : Fin 256) : yr q wr wi k b h o = 0 := by
  unfold yr
  simp only [xr_at, xi_at, wr_at, wi_at, mul_one, mul_zero, Finset.sum_const_zero, sub_zero]
/-- and imaginary part 256. -/
theorem yi_at (k : Fin 8) (b : Fin 2) (h : Fin 8) (o : Fin 256) : yi q wr wi k b h o = ((256 : ℝ) : EReal) := by
  unfold yi
  simp only [xr_at, xi_at, wr_at, wi_at, mul_one, mul_zero, Finset.sum_const_zero, add_zero, Finset.sum_const, Finset.card_univ, Fintype.card_fin]
  norm_num
  rfl

/-- A sum of eight reals, read as a real. -/
theorem sum_coe (f : Fin 8 → ℝ) : ∑ k : Fin 8, (f k : EReal) = ((∑ k : Fin 8, f k : ℝ) : EReal) := by
  simp only [Fin.sum_univ_eight, EReal.coe_add]

/-- The value that version v02 computes on the impulse at time one, `f` the sines there. -/
theorem kernel_value (f : Fin 8 → ℝ) (hf : ∀ k, S k (1 : Fin 4096) = (f k : EReal)) (h0 : f 0 = 0) :
    ∑ k : Fin 16, mixed q wr wi k 0 0 0 * bi (ix2 1 k) = ((-(1 / 16) * ∑ k : Fin 8, f k : ℝ) : EReal) := by
  have e : ∑ k : Fin 16, mixed q wr wi k 0 0 0 * bi (ix2 1 k) = ∑ k : Fin 8, ((256 : ℝ) : EReal) * (if k = 0 then (0 : EReal) else ((-(1 / 4096) : ℝ) : EReal)) * (f k : EReal) := by
    rw [show (Finset.univ : Finset (Fin 16)) = (Finset.univ : Finset (Fin (8 + 8))) from rfl, Fin.sum_univ_add]
    have a : ∀ i : Fin 8, mixed q wr wi (Fin.castAdd 8 i) 0 0 0 * bi (ix2 1 (Fin.castAdd 8 i)) = 0 := fun i => by
      rw [mixed, dif_pos (show (Fin.castAdd 8 i).val < 8 from i.isLt), yr_at, zero_mul]
    have b : ∀ i : Fin 8, mixed q wr wi (Fin.natAdd 8 i) 0 0 0 * bi (ix2 1 (Fin.natAdd 8 i))
        = ((256 : ℝ) : EReal) * (if i = 0 then (0 : EReal) else ((-(1 / 4096) : ℝ) : EReal)) * (f i : EReal) := fun i => by
      have hn : ¬ (Fin.natAdd 8 i).val < 8 := by simp
      have hi : (⟨(Fin.natAdd 8 i).val - 8, by have := i.isLt; simp⟩ : Fin 8) = i := Fin.ext (by simp)
      rw [mixed, dif_neg hn, yi_at, bi_at, dif_neg hn, hi, table_at, bits_zero, bits_neg, hf, mul_assoc]
    simp only [a, b, Finset.sum_const_zero, zero_add]
  rw [e]
  have g : ∀ k : Fin 8, ((256 : ℝ) : EReal) * (if k = 0 then (0 : EReal) else ((-(1 / 4096) : ℝ) : EReal)) * (f k : EReal) = ((-(1 / 16) * f k : ℝ) : EReal) := fun k => by
    split
    · next h => rw [h, h0]; simp
    · rw [← EReal.coe_mul, ← EReal.coe_mul]; norm_num
  simp only [g]
  rw [sum_coe, Finset.mul_sum]

end Cert.Proof.CI

end
-- ==== Proof.CR.Modes.lean ====
module

public import proofs.«01_k».proof.Proof.CI.Impulse
public import proofs.«01_k».proof.Proof.Gen.MathematicsAtIdeal.Run
public import proofs.«01_k».proof.Proof.Gen.MathematicsAtIdeal.Read

@[expose] public section

set_option maxRecDepth 16384

noncomputable section

namespace Cert.Proof.CR

open Cert.MathematicsAtIdeal Cert.MathematicsAtIdeal.Read
open Idealize.ShloMosaic
open Cert.Proof.RI (C S xr xi yr yi mixed)
open Cert.Proof.CI (q wr wi)

/-- The cosine table is the stated reference's. -/
theorem v19_eq (k : Fin 8) (l : Fin 4096) : val_main_v19 (F := Ideal) (ix2 k l) = C k l := rfl
/-- The sine table is the stated reference's. -/
theorem v21_eq (k : Fin 8) (l : Fin 4096) : val_main_v21 (F := Ideal) (ix2 k l) = S k l := rfl
/-- The cosine table, computed again for the inverse transform. -/
theorem v34_eq (k : Fin 8) (l : Fin 4096) : val_main_v34 (F := Ideal) (ix2 k l) = C k l := rfl
/-- The sine table, computed again for the inverse transform. -/
theorem v39_eq (k : Fin 8) (l : Fin 4096) : val_main_v39 (F := Ideal) (ix2 k l) = S k l := rfl

/-- The real parts of the modes. -/
theorem v20_eq (k : Fin 8) (b : Fin 2) (h : Fin 8) (e : Fin 256) : val_main_v20 (F := Ideal) (ix4 k b h e) = xr q k b h e := by
  pointwise [val_main_v20, xr]
  rfl
/-- The imaginary parts of the modes. -/
theorem v23_eq (k : Fin 8) (b : Fin 2) (h : Fin 8) (e : Fin 256) : val_main_v23 (F := Ideal) (ix4 k b h e) = xi q k b h e := by
  pointwise [val_main_v23, val_main_v22, xi]
  rfl
end Cert.Proof.CR

end
-- ==== Proof.CR.Mix.lean ====
module

public import proofs.«01_k».proof.Proof.CI.Impulse
public import proofs.«01_k».proof.Proof.Gen.MathematicsAtIdeal.Run
public import proofs.«01_k».proof.Proof.Gen.MathematicsAtIdeal.Read
public import proofs.«01_k».proof.Proof.CR.Modes

@[expose] public section

set_option maxRecDepth 16384

noncomputable section

namespace Cert.Proof.CR

open Cert.MathematicsAtIdeal Cert.MathematicsAtIdeal.Read
open Idealize.ShloMosaic
open Cert.Proof.RI (C S xr xi yr yi mixed)
open Cert.Proof.CI (q wr wi)

/-- A product of the modes with one weight per mode, entry by entry. -/
theorem mix_apply (A : FVec Ideal S8x2x8x256 .f32) (W : FVec Ideal S8x256x256 .f32) (k : Fin 8) (b : Fin 2) (h : Fin 8) (o : Fin 256) :
    Host.dotGeneral dot_S8x2x8x256_S8x256x256_S8x2x8x256_3_1_12_2_0_0 none A W (ix4 k b h o) = ∑ e : Fin 256, A (ix4 k b h e) * W (ix3 k e o) := by
  pointwise

/-- The real parts of the mixed modes. -/
theorem v26_eq (k : Fin 8) (b : Fin 2) (h : Fin 8) (o : Fin 256) : val_main_v26 (F := Ideal) (ix4 k b h o) = yr q wr wi k b h o := by
  have e24 : val_main_v24 (F := Ideal) (ix4 k b h o) = ∑ e : Fin 256, xr q k b h e * wr (ix3 k e o) :=
    (mix_apply (val_main_v20 (F := Ideal)) wr k b h o).trans (Finset.sum_congr rfl fun e _ => congrArg (· * wr (ix3 k e o)) (v20_eq k b h e))
  have e25 : val_main_v25 (F := Ideal) (ix4 k b h o) = ∑ e : Fin 256, xi q k b h e * wi (ix3 k e o) :=
    (mix_apply (val_main_v23 (F := Ideal)) wi k b h o).trans (Finset.sum_congr rfl fun e _ => congrArg (· * wi (ix3 k e o)) (v23_eq k b h e))
  rw [val_main_v26_apply, e24, e25]
  rfl
/-- The imaginary parts of the mixed modes. -/
theorem v29_eq (k : Fin 8) (b : Fin 2) (h : Fin 8) (o : Fin 256) : val_main_v29 (F := Ideal) (ix4 k b h o) = yi q wr wi k b h o := by
  have e27 : val_main_v27 (F := Ideal) (ix4 k b h o) = ∑ e : Fin 256, xr q k b h e * wi (ix3 k e o) :=
    (mix_apply (val_main_v20 (F := Ideal)) wi k b h o).trans (Finset.sum_congr rfl fun e _ => congrArg (· * wi (ix3 k e o)) (v20_eq k b h e))
  have e28 : val_main_v28 (F := Ideal) (ix4 k b h o) = ∑ e : Fin 256, xi q k b h e * wr (ix3 k e o) :=
    (mix_apply (val_main_v23 (F := Ideal)) wr k b h o).trans (Finset.sum_congr rfl fun e _ => congrArg (· * wr (ix3 k e o)) (v23_eq k b h e))
  rw [val_main_v29_apply, e27, e28]
  rfl

end Cert.Proof.CR

end
-- ==== Proof.CR.Count.lean ====
module

public import proofs.«01_k».proof.Proof.CI.Impulse
public import proofs.«01_k».proof.Proof.Gen.MathematicsAtIdeal.Run
public import proofs.«01_k».proof.Proof.Gen.MathematicsAtIdeal.Read

@[expose] public section

set_option maxRecDepth 16384

noncomputable section

namespace Cert.Proof.CR

open Cert.MathematicsAtIdeal Cert.MathematicsAtIdeal.Read
open Idealize.ShloMosaic
open Cert.Proof.RI (C S xr xi yr yi mixed)
open Cert.Proof.CI (q wr wi)

/-- The weight of a mode in the inverse transform: one over the length for mode zero, two over it for the others. -/
def count (k : Fin 8) : ℝ := if k = 0 then 1 / 4096 else 1 / 2048

/-- The weights as the program computes them. -/
theorem v33_eq (k : Fin 8) : val_main_v33 (F := Ideal) (ix2 k (0 : Fin 1)) = (count k : EReal) := by
  have h : val_main_v33 (F := Ideal) (ix2 k (0 : Fin 1)) = Scalar.select (IntOp.cmpi .eq (BitVec.ofNat 32 k.val) 0#32) (Ideal.ofBits .f32 0x39800000#32) (Ideal.ofBits .f32 0x3A000000#32) := by
    pointwise [val_main_v33, val_main_v32, val_main_v31, val_main_v30, val_main_c_5, val_main_v8, val_main_call2_v0, val_main_call2_v1, val_main_cst_6, val_main_cst_7]
  have hc : ∀ k : Fin 8, IntOp.cmpi .eq (BitVec.ofNat 32 k.val) 0#32 = if k = 0 then 1#1 else 0#1 := by decide
  rw [h, hc, CI.bits_inv, CI.bits_two]
  unfold count
  split <;> rfl

end Cert.Proof.CR

end
-- ==== Proof.CR.Value.lean ====
module

public import proofs.«01_k».proof.Proof.CI.Impulse
public import proofs.«01_k».proof.Proof.Gen.MathematicsAtIdeal.Run
public import proofs.«01_k».proof.Proof.Gen.MathematicsAtIdeal.Read
public import proofs.«01_k».proof.Proof.CR.Mix
public import proofs.«01_k».proof.Proof.CR.Count

@[expose] public section

set_option maxRecDepth 16384

noncomputable section

namespace Cert.Proof.CR

open Cert.MathematicsAtIdeal Cert.MathematicsAtIdeal.Gen Cert.MathematicsAtIdeal.Read
open Idealize.ShloMosaic
open Cert.Proof.RI (C S xr xi yr yi mixed)
open Cert.Proof.CI (q wr wi)

/-- A product of the mixed modes with a weighted table, its time axis moved to the front, entry by entry. -/
theorem back_apply (A : FVec Ideal S8x2x8x256 .f32) (W : FVec Ideal S8x1 .f32) (T : FVec Ideal S8x4096 .f32) (b : Fin 2) (l : Fin 4096) (h : Fin 8) (e : Fin 256) :
    transpose S2x4096x8x256 [0, 3, 1, 2] (Host.dotGeneral dot_S8x2x8x256_S8x4096_S2x8x256x4096_0_0_123_1_n_n none A
        (mulf (broadcastInDim S8x4096 ![0, 1] bcast_S8x1_S8x4096_0_1 W) T)) transposes_S2x8x256x4096_S2x4096x8x256_0_3_1_2 (ix4 b l h e)
      = ∑ k : Fin 8, A (ix4 k b h e) * (W (ix2 k (0 : Fin 1)) * T (ix2 k l)) := by
  pointwise

/-- The mathematics' value, as sums over the modes. -/
theorem v44_eq (b : Fin 2) (l : Fin 4096) (h : Fin 8) (e : Fin 256) :
    val_main_v44 (F := Ideal) (ix4 b l h e)
      = (∑ k : Fin 8, yr q wr wi k b h e * ((count k : EReal) * C k l)) - ∑ k : Fin 8, yi q wr wi k b h e * ((count k : EReal) * S k l) := by
  have e38 : val_main_v38 (F := Ideal) (ix4 b l h e) = ∑ k : Fin 8, yr q wr wi k b h e * ((count k : EReal) * C k l) :=
    (back_apply (val_main_v26 (F := Ideal)) (val_main_v33 (F := Ideal)) (val_main_v34 (F := Ideal)) b l h e).trans
      (Finset.sum_congr rfl fun k _ => congrArg₂ (fun x y : EReal => x * y) (v26_eq k b h e) (congrArg₂ (fun x y : EReal => x * y) (v33_eq k) (v34_eq k l)))
  have e43 : val_main_v43 (F := Ideal) (ix4 b l h e) = ∑ k : Fin 8, yi q wr wi k b h e * ((count k : EReal) * S k l) :=
    (back_apply (val_main_v29 (F := Ideal)) (val_main_v33 (F := Ideal)) (val_main_v39 (F := Ideal)) b l h e).trans
      (Finset.sum_congr rfl fun k _ => congrArg₂ (fun x y : EReal => x * y) (v29_eq k b h e) (congrArg₂ (fun x y : EReal => x * y) (v33_eq k) (v39_eq k l)))
  rw [val_main_v44_apply, e38, e43]
  rfl

/-- The mathematics' value on the impulse at time one, `f` the sines there. -/
theorem value (f : Fin 8 → ℝ) (hf : ∀ k, S k (1 : Fin 4096) = (f k : EReal)) (h0 : f 0 = 0) :
    val_main_v44 (F := Ideal) (ix4 0 1 0 0) = ((-(1 / 8) * ∑ k : Fin 8, f k : ℝ) : EReal) := by
  have a : ∀ k : Fin 8, ((256 : ℝ) : EReal) * ((count k : EReal) * (f k : EReal)) = ((1 / 8 * f k : ℝ) : EReal) := fun k => by
    rw [← EReal.coe_mul, ← EReal.coe_mul]
    unfold count
    split
    · next h => rw [h, h0]; simp
    · exact congrArg Real.toEReal (by ring)
  rw [v44_eq]
  simp only [CI.yr_at, CI.yi_at, zero_mul, Finset.sum_const_zero, hf, a]
  rw [CI.sum_coe, ← Finset.mul_sum, zero_sub, ← EReal.coe_neg, neg_mul]

/-- On the impulse at time one, version v02 and the mathematics differ. -/
theorem differ : (∑ k : Fin 16, mixed q wr wi k 0 0 0 * CI.bi (ix2 1 k)) ≠ val_main_v44 (F := Ideal) (ix4 0 1 0 0) := by
  obtain ⟨f, hf, h0, hp⟩ := CI.S_one
  rw [CI.kernel_value f hf h0, value f hf h0]
  intro h
  have h := EReal.coe_eq_coe_iff.mp h
  have : 0 < ∑ k : Fin 8, f k :=
    Finset.sum_pos' (fun k _ => by by_cases hk : k = 0; · rw [hk, h0]
                                   · exact (hp k hk).le) ⟨1, Finset.mem_univ _, hp 1 (by decide)⟩
  linarith

end Cert.Proof.CR

end
-- ==== Proof.lean ====
module

public import proofs.«01_k».proof.Defs
public import proofs.«01_k».proof.Proof.K.Run
public import proofs.«01_k».proof.Proof.KI.Pre
public import proofs.«01_k».proof.Proof.Gen.ReferenceIdeal
public import proofs.«01_k».proof.Proof.Gen.ReferenceIdeal.Run
public import proofs.«01_k».proof.Proof.Gen.Pre_finite_inputs
public import proofs.«01_k».proof.Proof.CI.Value
public import proofs.«01_k».proof.Proof.CR.Value
public import Idealize.ShloMosaic.Adequacy
public import Idealize.ShloMosaic.Init

@[expose] public section

noncomputable section

namespace Cert.Proof

open Idealize.ShloMosaic Idealize.SL.Sem Cert.Kernel

/-- The reference's frame: it is host operations alone, on a program with no semaphore. -/
theorem reference_frame : Cert.quiescent_ReferenceIdeal (hReferenceIdeal := Cert.ReferenceIdeal.Gen.facts) := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- The kernel, run at extended reals, ends with the reference's result. -/
theorem algebraic : Cert.algebraic_KernelIdeal_ReferenceIdeal_pre_finite_inputs (hKernelIdeal := Cert.KernelIdeal.Gen.facts)
    (hReferenceIdeal := Cert.ReferenceIdeal.Gen.facts) (hPre_finite_inputs := Cert.Pre_finite_inputs.Gen.facts) := by
  intro m g m' g' hpre hargs
  refine ⟨fun c => Cert.ReferenceIdeal.Value.res_main_v24 m' c, ?_, Cert.ReferenceIdeal.Value.run (F := Ideal) m' g'⟩
  refine (θ_run Cert.KernelIdeal.defs _ _).mono (fun r h c => ⟨?_, h.2.1 c⟩) (θ_run_and (KI.run_arrays m g) (KI.frame m g))
  obtain ⟨h0, -, -, -, h4, h5, h6⟩ := hargs c
  dsimp only
  rw [KI.result_of_post m c (KI.reals_of_pre m hpre c) r h.1, Cert.ReferenceIdeal.Read.val_main_v24_eq, h0, h4, h5, h6]

/-- The mathematics' frame: it is host operations alone, on a program with no semaphore. -/
theorem mathematics_frame : Cert.quiescent_MathematicsAtIdeal (hMathematicsAtIdeal := Cert.MathematicsAtIdeal.Gen.facts) := fun m g _ =>
  (θ_run Cert.MathematicsAtIdeal.defs _ _).mono (fun r h => ⟨fun c => (h c).2, Idealize.ShloMosaic.sem_eq_zero_of_no_sems (by decide) r.2⟩)
    (Cert.MathematicsAtIdeal.Value.run (F := Ideal) m g)

/-- What a run of version v02 on the impulse leaves at batch 0, time 1, head 0, channel 0. -/
theorem at_one (m : (ℓ : Loc Cert.KernelAtIdeal.nD Cert.KernelAtIdeal.τ Cert.KernelAtIdeal.sig) → Buf (Elt Ideal) ℓ) (c : Dev Cert.KernelAtIdeal.nD)
    (r : PUnit × MemSt Cert.KernelAtIdeal.nD Cert.KernelAtIdeal.τ Cert.KernelAtIdeal.sig (Elt Ideal))
    (h : Pipeline.FramePost Cert.KernelAtIdeal.cfgs (CI.dats m) 0
      (Pipeline.afterTail₀ Cert.KernelAtIdeal.cfgs (CI.dats m) 0 (Cert.KernelAtIdeal.Gen.V0 m) [Cert.KernelAtIdeal.Gen.hostOps1]) r) :
    (r.2.mem ((c.tc : Thread Cert.KernelAtIdeal.nD Cert.KernelAtIdeal.τ).loc Cert.KernelAtIdeal.main_v49) : Vec Ideal Cert.KernelAtIdeal.S2x4096x8x256 .f32)
        (Idealize.ShloMosaic.ix4 0 1 0 0)
      = ∑ k : Fin 16, RI.mixed CI.q CI.wr CI.wi k 0 0 0 * CI.bi (Idealize.ShloMosaic.ix2 1 k) :=
  (congrFun ((h c).2 Cert.KernelAtIdeal.main_v49 (Pipeline.mem_restRefs_of Cert.KernelAtIdeal.main_v49 (by decide) (by decide)))
    (Idealize.ShloMosaic.ix4 0 1 0 0)).trans (CI.out_eq m c CI.reals 0 1 0 0)

/-- Version v02 does not compute the mathematics: on the impulse, every weight the imaginary unit, the two differ at time 1. -/
theorem disproof : Cert.disproves_algebraic_KernelAtIdeal_MathematicsAtIdeal (hKernelAtIdeal := Cert.KernelAtIdeal.Gen.facts)
    (hMathematicsAtIdeal := Cert.MathematicsAtIdeal.Gen.facts) := by
  intro m g m' g' _ _
  refine ⟨trivial, fun c => Cert.MathematicsAtIdeal.Value.res_main_v44 m' c, ?_,
    (θ_run Cert.MathematicsAtIdeal.defs _ _).mono (fun r h c => (h c).1) (Cert.MathematicsAtIdeal.Value.run (F := Ideal) m' g')⟩
  refine (θ_run Cert.KernelAtIdeal.defs _ _).mono (fun r h hall => ?_) (CI.run_arrays m g)
  have e := at_one m 0 r h
  have e' := congrFun ((hall 0).trans (Cert.MathematicsAtIdeal.Read.val_main_v44_eq m' 0)) (Idealize.ShloMosaic.ix4 0 1 0 0)
  exact CR.differ (e.symm.trans e')

/-- Everything claimed. -/
theorem claim : Cert.Claim := ⟨Cert.Kernel.Gen.facts, Cert.KernelIdeal.Gen.facts, Cert.ReferenceIdeal.Gen.facts,
  Cert.KernelAtIdeal.Gen.facts, Cert.MathematicsAtIdeal.Gen.facts, Cert.Pre_finite_inputs.Gen.facts,
  fun m g _ => K.frame m g, fun m g _ => KI.frame m g, fun m g _ => KI.frame m g,
  reference_frame, fun m g _ => reference_frame m g trivial, fun m g _ => CI.frame m g, mathematics_frame, trivial, algebraic, disproof⟩

end Cert.Proof

end
